-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x32x32 : Shape := ⟨4, ![8, 64, 32, 32]⟩
abbrev S64x64x3x3 : Shape := ⟨4, ![64, 64, 3, 3]⟩
abbrev S64 : Shape := ⟨1, ![64]⟩
abbrev S8x8x8x1024 : Shape := ⟨4, ![8, 8, 8, 1024]⟩
abbrev S8x64x1024 : Shape := ⟨3, ![8, 64, 1024]⟩
abbrev S3x3x64x64 : Shape := ⟨4, ![3, 3, 64, 64]⟩
abbrev S9x64x8x8 : Shape := ⟨4, ![9, 64, 8, 8]⟩
abbrev S9x64x64 : Shape := ⟨3, ![9, 64, 64]⟩
abbrev S_ : Shape := ⟨0, ![]⟩
abbrev S8x1x8 : Shape := ⟨3, ![8, 1, 8]⟩
abbrev S1x64x1024 : Shape := ⟨3, ![1, 64, 1024]⟩
abbrev S1x1x8 : Shape := ⟨3, ![1, 1, 8]⟩
abbrev S64x1024 : Shape := ⟨2, ![64, 1024]⟩
abbrev S1x1024 : Shape := ⟨2, ![1, 1024]⟩
abbrev S8x1024 : Shape := ⟨2, ![8, 1024]⟩
abbrev S64x33 : Shape := ⟨2, ![64, 33]⟩
abbrev S64x991 : Shape := ⟨2, ![64, 991]⟩
abbrev S1x64x64 : Shape := ⟨3, ![1, 64, 64]⟩
abbrev S64x64 : Shape := ⟨2, ![64, 64]⟩
abbrev S8x8x1024 : Shape := ⟨3, ![8, 8, 1024]⟩
abbrev S1x8x8x8 : Shape := ⟨4, ![1, 8, 8, 8]⟩
abbrev S8x8x8 : Shape := ⟨3, ![8, 8, 8]⟩
abbrev S1x8x8x1024 : Shape := ⟨4, ![1, 8, 8, 1024]⟩
abbrev S8x8x8x1 : Shape := ⟨4, ![8, 8, 8, 1]⟩
abbrev S64x32 : Shape := ⟨2, ![64, 32]⟩
abbrev S64x992 : Shape := ⟨2, ![64, 992]⟩
abbrev S64x31 : Shape := ⟨2, ![64, 31]⟩
abbrev S64x993 : Shape := ⟨2, ![64, 993]⟩
abbrev S64x1 : Shape := ⟨2, ![64, 1]⟩
abbrev S64x1023 : Shape := ⟨2, ![64, 1023]⟩
abbrev S1x8x1024 : Shape := ⟨3, ![1, 8, 1024]⟩
abbrev S1 : Shape := ⟨1, ![1]⟩
abbrev S1x1x1 : Shape := ⟨3, ![1, 1, 1]⟩
abbrev S8x8 : Shape := ⟨2, ![8, 8]⟩
abbrev S8 : Shape := ⟨1, ![8]⟩
abbrev S9 : Shape := ⟨1, ![9]⟩

abbrev nBuf : Space → Nat
  | .hbm => 26
  | .vmem => 6
  | .smem => 2
  | _ => 0

abbrev bufTy : (tb : Table) → Fin (tcTables nBuf tb) → BufTy
  | .hbm, ⟨0, _⟩ => ⟨S8x64x32x32, .f32⟩
  | .hbm, ⟨1, _⟩ => ⟨S64x64x3x3, .f32⟩
  | .hbm, ⟨2, _⟩ => ⟨S64, .f32⟩
  | .hbm, ⟨3, _⟩ => ⟨S8x8x8x1024, .f32⟩
  | .hbm, ⟨4, _⟩ => ⟨S8x8x8x1024, .f32⟩
  | .hbm, ⟨5, _⟩ => ⟨S8x64x1024, .f32⟩
  | .hbm, ⟨6, _⟩ => ⟨S3x3x64x64, .f32⟩
  | .hbm, ⟨7, _⟩ => ⟨S9x64x8x8, .f32⟩
  | .hbm, ⟨8, _⟩ => ⟨S9x64x8x8, .f32⟩
  | .hbm, ⟨9, _⟩ => ⟨S9x64x64, .f32⟩
  | .hbm, ⟨10, _⟩ => ⟨S9x64x8x8, .f32⟩
  | .hbm, ⟨11, _⟩ => ⟨S_, .f32⟩
  | .hbm, ⟨12, _⟩ => ⟨S9x64x8x8, .f32⟩
  | .hbm, ⟨13, _⟩ => ⟨S9x64x8x8, .f32⟩
  | .hbm, ⟨14, _⟩ => ⟨S8x64x1024, .f32⟩
  | .hbm, ⟨15, _⟩ => ⟨S8x1x8, .i32⟩
  | .hbm, ⟨16, _⟩ => ⟨S8x8, .i32⟩
  | .hbm, ⟨17, _⟩ => ⟨S_, .i32⟩
  | .hbm, ⟨18, _⟩ => ⟨S8, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S9, .i32⟩
  | .hbm, ⟨25, _⟩ => ⟨S8x64x32x32, .f32⟩
  | .local _ .vmem, ⟨0, _⟩ => ⟨S1x64x1024, .f32⟩
  | .local _ .vmem, ⟨1, _⟩ => ⟨S1x64x1024, .f32⟩
  | .local _ .vmem, ⟨2, _⟩ => ⟨S9x64x64, .f32⟩
  | .local _ .vmem, ⟨3, _⟩ => ⟨S9x64x8x8, .f32⟩
  | .local _ .vmem, ⟨4, _⟩ => ⟨S1x64x1024, .f32⟩
  | .local _ .vmem, ⟨5, _⟩ => ⟨S1x64x1024, .f32⟩
  | .local _ .smem, ⟨0, _⟩ => ⟨S1x1x8, .i32⟩
  | .local _ .smem, ⟨1, _⟩ => ⟨S1x1x8, .i32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x64x8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x1x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x64x32x32 : Shape := ⟨4, ![8, 64, 32, 32]⟩
abbrev S64x64x3x3 : Shape := ⟨4, ![64, 64, 3, 3]⟩
abbrev S64 : Shape := ⟨1, ![64]⟩
abbrev S_ : Shape := ⟨0, ![]⟩
abbrev S8x64x34x34 : Shape := ⟨4, ![8, 64, 34, 34]⟩
abbrev S8x64x1x32x32 : Shape := ⟨5, ![8, 64, 1, 32, 32]⟩
abbrev S8x64x9x32x32 : Shape := ⟨5, ![8, 64, 9, 32, 32]⟩
abbrev S64x64x9 : Shape := ⟨3, ![64, 64, 9]⟩
abbrev S8x32x32x64 : Shape := ⟨4, ![8, 32, 32, 64]⟩
abbrev S1x64x64x9x1x1 : Shape := ⟨6, ![1, 64, 64, 9, 1, 1]⟩
abbrev S8x1x64x9x32x32 : Shape := ⟨6, ![8, 1, 64, 9, 32, 32]⟩
abbrev S8x64x64x9x32x32 : Shape := ⟨6, ![8, 64, 64, 9, 32, 32]⟩
abbrev S8x64x8x8x9x32x32 : Shape := ⟨7, ![8, 64, 8, 8, 9, 32, 32]⟩
abbrev S8x64x8x9x32x32 : Shape := ⟨6, ![8, 64, 8, 9, 32, 32]⟩
abbrev S8x64x8x9x32x32x1 : Shape := ⟨7, ![8, 64, 8, 9, 32, 32, 1]⟩
abbrev S9 : Shape := ⟨1, ![9]⟩
abbrev S1x1x1x1x1x1x9 : Shape := ⟨7, ![1, 1, 1, 1, 1, 1, 9]⟩
abbrev S8x64x8x9x32x32x9 : Shape := ⟨7, ![8, 64, 8, 9, 32, 32, 9]⟩

abbrev nBuf : Space → Nat
  | .hbm => 51
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S64x64x3x3, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S8x64x34x34, .f32⟩
  | .hbm, ⟨6, _⟩ => ⟨S8x64x32x32, .f32⟩
  | .hbm, ⟨7, _⟩ => ⟨S8x64x32x32, .f32⟩
  | .hbm, ⟨8, _⟩ => ⟨S8x64x32x32, .f32⟩
  | .hbm, ⟨9, _⟩ => ⟨S8x64x32x32, .f32⟩
  | .hbm, ⟨10, _⟩ => ⟨S8x64x32x32, .f32⟩
  | .hbm, ⟨11, _⟩ => ⟨S8x64x32x32, .f32⟩
  | .hbm, ⟨12, _⟩ => ⟨S8x64x32x32, .f32⟩
  | .hbm, ⟨13, _⟩ => ⟨S8x64x32x32, .f32⟩
  | .hbm, ⟨14, _⟩ => ⟨S8x64x32x32, .f32⟩
  | .hbm, ⟨15, _⟩ => ⟨S8x64x1x32x32, .f32⟩
  | .hbm, ⟨16, _⟩ => ⟨S8x64x1x32x32, .f32⟩
  | .hbm, ⟨17, _⟩ => ⟨S8x64x1x32x32, .f32⟩
  | .hbm, ⟨18, _⟩ => ⟨S8x64x1x32x32, .f32⟩
  | .hbm, ⟨19, _⟩ => ⟨S8x64x1x32x32, .f32⟩
  | .hbm, ⟨20, _⟩ => ⟨S8x64x1x32x32, .f32⟩
  | .hbm, ⟨21, _⟩ => ⟨S8x64x1x32x32, .f32⟩
  | .hbm, ⟨22, _⟩ => ⟨S8x64x1x32x32, .f32⟩
  | .hbm, ⟨23, _⟩ => ⟨S8x64x1x32x32, .f32⟩
  | .hbm, ⟨24, _⟩ => ⟨S8x64x9x32x32, .f32⟩
  | .hbm, ⟨25, _⟩ => ⟨S64x64x9, .f32⟩
  | .hbm, ⟨26, _⟩ => ⟨S8x32x32x64, .f32⟩
  | .hbm, ⟨27, _⟩ => ⟨S8x64x32x32, .f32⟩
  | .hbm, ⟨28, _⟩ => ⟨S64x64x9, .f32⟩
  | .hbm, ⟨29, _⟩ => ⟨S1x64x64x9x1x1, .f32⟩
  | .hbm, ⟨30, _⟩ => ⟨S8x64x9x32x32, .f32⟩
  | .hbm, ⟨31, _⟩ => ⟨S8x1x64x9x32x32, .f32⟩
  | .hbm, ⟨32, _⟩ => ⟨S8x64x64x9x32x32, .f32⟩
  | .hbm, ⟨33, _⟩ => ⟨S8x64x64x9x32x32, .f32⟩
  | .hbm, ⟨34, _⟩ => ⟨S8x64x64x9x32x32, .f32⟩
  | .hbm, ⟨35, _⟩ => ⟨S_, .f32⟩
  | .hbm, ⟨36, _⟩ => ⟨S8x64x64x9x32x32, .f32⟩
  | .hbm, ⟨37, _⟩ => ⟨S8x64x64x9x32x32, .i1⟩
  | .hbm, ⟨38, _⟩ => ⟨S8x64x8x8x9x32x32, .i1⟩
  | .hbm, ⟨39, _⟩ => ⟨S8x64x8x8x9x32x32, .i32⟩
  | .hbm, ⟨40, _⟩ => ⟨S_, .i32⟩
  | .hbm, ⟨41, _⟩ => ⟨S8x64x8x9x32x32, .i32⟩
  | .hbm, ⟨42, _⟩ => ⟨S8x64x8x9x32x32x1, .i32⟩
  | .hbm, ⟨43, _⟩ => ⟨S9, .i32⟩
  | .hbm, ⟨44, _⟩ => ⟨S1x1x1x1x1x1x9, .i32⟩
  | .hbm, ⟨45, _⟩ => ⟨S8x64x8x9x32x32x9, .i32⟩
  | .hbm, ⟨46, _⟩ => ⟨S8x64x8x9x32x32x9, .i32⟩
  | .hbm, ⟨47, _⟩ => ⟨S8x64x8x9x32x32x9, .i1⟩
  | .hbm, ⟨48, _⟩ => ⟨S8x64x8x9x32x32x9, .i32⟩
  | .hbm, ⟨49, _⟩ => ⟨S_, .i32⟩
  | .hbm, ⟨50, _⟩ => ⟨S9, .i32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_1 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Proof.Body.lean ====
/- The kernel's body as vector operations: one definition per step of the loop over the nine taps, and the proof that the
   words the body's run stores are those definitions. -/
module

public import proofs.«01_k».proof.Proof.Gen.KernelIdeal.Frame
public import Idealize.ShloMosaic.Lib.Pipeline.Value
public import Idealize.ShloMosaic.Lib.Pointwise

@[expose] public section

noncomputable section

namespace Cert.KernelIdeal.Body

open Idealize.ShloMosaic Idealize.ShloMosaic.TcCoe Cert.KernelIdeal Cert.KernelIdeal.Gen

variable {F : FTy → Type} [FloatOps F]

/-! ## The shifted, masked image of one tap -/

/-- A run of `n` lanes from lane `o` on lies inside the 1024 lanes. -/
theorem slices_lanes (o n : ℕ) (h : o + n ≤ 1024) : S64x1024.Slices ![0, o] ⟨2, ![64, n]⟩ :=
  ⟨rfl, fun a => by fin_cases a <;> simp [S64x1024] <;> omega⟩

/-- Two runs of lanes of total length 1024 fill the 1024 lanes. -/
theorem concat_lanes (m n : ℕ) (h : m + n = 1024) : Shape.Concatenates [⟨2, ![64, m]⟩, ⟨2, ![64, n]⟩] S64x1024 1 := by
  refine ⟨by simp, ?_, by simp [S64x1024]; omega⟩
  intro s hs
  simp only [List.mem_cons, List.not_mem_nil, or_false] at hs
  rcases hs with rfl | rfl <;> exact ⟨rfl, fun b hb => by fin_cases b <;> simp_all [S64x1024]⟩

/-- The image with its lanes rolled left by `s`. -/
def rolled (s : ℕ) (h : s ≤ 1024) (x : FVec F S64x1024 .f32) : FVec F S64x1024 .f32 :=
  concatenate S64x1024 1
    [⟨⟨2, ![64, 1024 - s]⟩, extractStridedSlice ⟨2, ![64, 1024 - s]⟩ ![0, s] x (slices_lanes s (1024 - s) (by omega))⟩,
     ⟨⟨2, ![64, s]⟩, extractStridedSlice ⟨2, ![64, s]⟩ ![0, 0] x (slices_lanes 0 s (by omega))⟩]
    (concat_lanes (1024 - s) s (by omega))

/-- The lane numbers. -/
def lanes : IVec S1x1024 32 := iota .tc S1x1024 32 [1] iota_S1x1024_d1_w32
/-- The lanes' columns. -/
def cols : IVec S1x1024 32 := andi lanes (broadcast S1x1024 31#32)
/-- Not in the first row. -/
def rowLo : IVec S1x1024 1 := cmpi .sge lanes (broadcast S1x1024 32#32)
/-- Not in the last row. -/
def rowHi : IVec S1x1024 1 := cmpi .slt lanes (broadcast S1x1024 992#32)
/-- Not in the first column. -/
def colLo : IVec S1x1024 1 := cmpi .ne cols (broadcast S1x1024 0#32)
/-- Not in the last column. -/
def colHi : IVec S1x1024 1 := cmpi .ne cols (broadcast S1x1024 31#32)

/-- The image where the lane mask holds, zero elsewhere. -/
def masked (m : IVec S1x1024 1) (x : FVec F S64x1024 .f32) : FVec F S64x1024 .f32 :=
  select (broadcastTo S64x1024 (shapeCast S1x1024 m shapeCasts_S1x1024_S1x1024) broadcasts_S1x1024_S64x1024) x
    (broadcast S64x1024 (Scalar.ofBits .f32 0x00000000#32))

/-- The image as tap `t` sees it. -/
def window (x : FVec F S64x1024 .f32) : ℕ → FVec F S64x1024 .f32
  | 0 => masked (andi rowLo colLo) (rolled 991 (by omega) x)
  | 1 => masked rowLo (rolled 992 (by omega) x)
  | 2 => masked (andi rowLo colHi) (rolled 993 (by omega) x)
  | 3 => masked colLo (rolled 1023 (by omega) x)
  | 4 => x
  | 5 => masked colHi (rolled 1 (by omega) x)
  | 6 => masked (andi rowHi colLo) (rolled 31 (by omega) x)
  | 7 => masked rowHi (rolled 32 (by omega) x)
  | _ => masked (andi rowHi colHi) (rolled 33 (by omega) x)

/-! ## The convolution -/

/-- The products of one tap. -/
def product (w : Vec F S1x64x64 .f32) (x : FVec F S64x1024 .f32) : FVec F S64x1024 .f32 :=
  matmul dot_S64x64_S64x1024_S64x1024_1_0_0_1_n_n none (shapeCast S64x64 w shapeCasts_S1x64x64_S64x64) x
    (constant S64x1024 .f32 0x00000000#32)

/-- The sum of the first `n` taps' products. -/
def convolved (w : ℕ → Vec F S1x64x64 .f32) (x : FVec F S64x1024 .f32) (n : ℕ) : FVec F S64x1024 .f32 :=
  Nat.rec (broadcast S64x1024 (Scalar.ofBits .f32 0x00000000#32)) (fun t acc => addf acc (product (w t) (window x t))) n

/-! ## The packed counters -/

/-- For eight rows of thresholds: each row's count over its eight channels raises one four-bit field of a word; the
    eight rows' words added. -/
def packed (x : FVec F S64x1024 .f32) (thr : Vec F S1x8x8x8 .f32) : IVec S8x1024 32 :=
  let a : FVec F S8x8x8x1024 .f32 := broadcastTo S8x8x8x1024 (shapeCast S1x8x8x1024
    (shapeCast S8x8x1024 (absf x) shapeCasts_S64x1024_S8x8x1024) shapeCasts_S8x8x1024_S1x8x8x1024) broadcasts_S1x8x8x1024_S8x8x8x1024
  let b : FVec F S8x8x8x1024 .f32 := broadcastTo S8x8x8x1024 (shapeCast S8x8x8x1
    (shapeCast S8x8x8 thr shapeCasts_S1x8x8x8_S8x8x8) shapeCasts_S8x8x8_S8x8x8x1) broadcasts_S8x8x8x1_S8x8x8x1024
  let cnt : IVec S8x8x1024 32 := multiReductionI .add [1] S8x8x1024
    (select (cmpf .ogt a b) (broadcast S8x8x8x1024 1#32) (broadcast S8x8x8x1024 0#32)) 0#32 reduces_S8x8x8x1024_S8x8x1024 rfl
  multiReductionI .add [0] S8x1024
    (select (cmpi .slt cnt (broadcast S8x8x1024 8#32)) (shli (broadcast S8x8x1024 1#32) (shli cnt (broadcast S8x8x1024 2#32)))
      (broadcast S8x8x1024 0#32)) 0#32 reduces_S8x8x1024_S8x1024 rfl

/-- A word's even four-bit fields, each widened to eight bits. -/
def evens (p : IVec S8x1024 32) : IVec S8x1024 32 := andi p (broadcast S8x1024 252645135#32)
/-- A word's odd four-bit fields, each widened to eight bits. -/
def odds (p : IVec S8x1024 32) : IVec S8x1024 32 :=
  andi (shrui p (broadcast S8x1024 4#32)) (broadcast S8x1024 252645135#32)

/-- The sum of the first `n` words. -/
def added (g : ℕ → IVec S8x1024 32) (n : ℕ) : IVec S8x1024 32 :=
  Nat.rec (broadcast S8x1024 0#32) (fun s acc => addi acc (g s)) n

/-- One eight-bit field of a word. -/
def field8 (i : ℕ) (p : IVec S8x1024 32) : IVec S8x1024 32 :=
  andi (shrui p (broadcast S8x1024 (BitVec.ofNat 32 (8 * i)))) (broadcast S8x1024 255#32)

/-- The packed word of step `s`: tap `s / 8`, rows `8 * (s % 8)` to `8 * (s % 8) + 7`. -/
def stepWord (x : FVec F S64x1024 .f32) (thr : ℕ → ℕ → Vec F S1x8x8x8 .f32) (s : ℕ) : IVec S8x1024 32 :=
  packed (window x (s / 8)) (thr (s / 8) (s % 8))

/-- Field `i` of the words `pick` takes of the steps, gathered over the three rows of taps of 24 steps each. -/
def bin (pick : IVec S8x1024 32 → IVec S8x1024 32) (x : FVec F S64x1024 .f32) (thr : ℕ → ℕ → Vec F S1x8x8x8 .f32) (i : ℕ) :
    IVec S8x1024 32 :=
  Nat.rec (broadcast S8x1024 0#32)
    (fun r acc => addi acc (field8 i (added (fun n => pick (stepWord x thr (24 * r + n))) 24))) 3

/-- A bin's total, as the one element the body stores. -/
def total (b : IVec S8x1024 32) : BitVec 32 :=
  extractAt ![0, 0, 0] (shapeCast S1x1x1 (multiReductionI .add [1, 2] S1 (shapeCast S1x8x1024 b shapeCasts_S8x1024_S1x8x1024) 0#32
    reduces_S1x8x1024_S1 rfl) shapeCasts_S1_S1x1x1) inpos_S1x1x1_p0_0_0

/-! ## The loads -/

/-- One tap's plane of the weights lies inside them. -/
theorem inb_w (t : ℕ) (a : Fin 3) : (![t % 9, 0, 0] : Fin 3 → ℕ) a + S1x64x64.size a ≤ S9x64x64.size a := by
  fin_cases a <;> simp [S1x64x64, S9x64x64]; omega

/-- Eight rows of one tap's plane of the thresholds lie inside them. -/
theorem inb_thr (t r : ℕ) (a : Fin 4) : (![t % 9, 8 * (r % 8), 0, 0] : Fin 4 → ℕ) a + S1x8x8x8.size a ≤ S9x64x8x8.size a := by
  fin_cases a <;> simp [S1x8x8x8, S9x64x8x8] <;> omega

variable (c : Dev nD) (i : grid0.Coords) (arg1 : Memref sig .tc .vmem S1x64x1024 .f32) (harg1 : arg1.IsWhole)
  (arg2 : Memref sig .tc .vmem S9x64x64 .f32) (harg2 : arg2.IsWhole) (arg3 : Memref sig .tc .vmem S9x64x8x8 .f32) (harg3 : arg3.IsWhole)
  (arg4 : Memref sig .tc .vmem S1x64x1024 .f32) (harg4 : arg4.IsWhole) (arg5 : Memref sig .tc .smem S1x1x8 .i32) (harg5 : arg5.IsWhole)
  (x0 : Vec F S1x64x1024 .f32) (x1 : Vec F S9x64x64 .f32) (x2 : Vec F S9x64x8x8 .f32)

/-- The image as the body loads it. -/
def ldX : FVec F S64x1024 .f32 :=
  shapeCast S64x1024 (View.readAt (Elt F) arg1.view
    (Rect.unit (s := S1x64x1024) ![0, 0, 0] S1x64x1024.size inb_S1x64x1024_S1x64x1024_0_0_0).toLoadRect (harg1.unread x0))
    shapeCasts_S1x64x1024_S64x1024
/-- One tap's weights as the body loads them. -/
def ldW (t : ℕ) : Vec F S1x64x64 .f32 :=
  View.readAt (Elt F) arg2.view (Rect.unit (s := S9x64x64) ![t % 9, 0, 0] S1x64x64.size (inb_w t)).toLoadRect (harg2.unread x1)
/-- Eight rows of one tap's thresholds as the body loads them. -/
def ldThr (t r : ℕ) : Vec F S1x8x8x8 .f32 :=
  View.readAt (Elt F) arg3.view (Rect.unit (s := S9x64x8x8) ![t % 9, 8 * (r % 8), 0, 0] S1x8x8x8.size (inb_thr t r)).toLoadRect
    (harg3.unread x2)

/-- The word stored to the convolution's block is the nine taps' sum. -/
theorem out_word : kernelRun0_A.sl.v2280 c arg1 harg1 arg2 harg2 x0 x1
    = shapeCast S1x64x1024 (convolved (ldW arg2 harg2 x1) (ldX arg1 harg1 x0) 9) shapeCasts_S64x1024_S1x64x1024 := by
  sl_kernel_rfl

/-- The total stored at position `k`: the even fields' bins at even positions, the odd fields' at odd ones. -/
def histWord (x : FVec F S64x1024 .f32) (thr : ℕ → ℕ → Vec F S1x8x8x8 .f32) (k : ℕ) : BitVec 32 :=
  total (bin (fun p => if k % 2 = 0 then evens p else odds p) x thr (k / 2))

/-- The convolution's block after the body: the nine taps' sum. -/
theorem out_conv : out0_A_3 c i arg1 harg1 arg2 harg2 arg3 harg3 arg4 harg4 arg5 harg5 x0 x1 x2
    = shapeCast S1x64x1024 (convolved (ldW arg2 harg2 x1) (ldX arg1 harg1 x0) 9) shapeCasts_S64x1024_S1x64x1024 := by
  unfold out0_A_3
  rw [View.read_writes_eq_canon _ _ _ (cover0_A_3 c i arg1 harg1 arg2 harg2 arg3 harg3 arg4 harg4 arg5 harg5 x0 x1 x2)]
  unfold kernelRun0_A
  dsimp only
  rw [out_word]
  exact View.canon_cons_unit_zero (S := S1x64x1024) (funext fun a => by fin_cases a <;> rfl) _ _ _

/-- The pieces the body stores into the histogram's block, last first. -/
theorem hist_pieces : (kernelRun0_A c i arg1 harg1 arg2 harg2 arg3 harg3 arg4 harg4 arg5 harg5 x0 x1 x2).2.1
    = [⟨Rect.unit ![0, 0, 7] ![1, 1, 1] (by decide), fun _ => histWord (ldX arg1 harg1 x0) (ldThr arg3 harg3 x2) 7⟩,
       ⟨Rect.unit ![0, 0, 6] ![1, 1, 1] (by decide), fun _ => histWord (ldX arg1 harg1 x0) (ldThr arg3 harg3 x2) 6⟩,
       ⟨Rect.unit ![0, 0, 5] ![1, 1, 1] (by decide), fun _ => histWord (ldX arg1 harg1 x0) (ldThr arg3 harg3 x2) 5⟩,
       ⟨Rect.unit ![0, 0, 4] ![1, 1, 1] (by decide), fun _ => histWord (ldX arg1 harg1 x0) (ldThr arg3 harg3 x2) 4⟩,
       ⟨Rect.unit ![0, 0, 3] ![1, 1, 1] (by decide), fun _ => histWord (ldX arg1 harg1 x0) (ldThr arg3 harg3 x2) 3⟩,
       ⟨Rect.unit ![0, 0, 2] ![1, 1, 1] (by decide), fun _ => histWord (ldX arg1 harg1 x0) (ldThr arg3 harg3 x2) 2⟩,
       ⟨Rect.unit ![0, 0, 1] ![1, 1, 1] (by decide), fun _ => histWord (ldX arg1 harg1 x0) (ldThr arg3 harg3 x2) 1⟩,
       ⟨Rect.unit ![0, 0, 0] ![1, 1, 1] (by decide), fun _ => histWord (ldX arg1 harg1 x0) (ldThr arg3 harg3 x2) 0⟩] := by
  sl_kernel_rfl

/-- A piece that stores `G k` at position `k` holds `G` of the position it is stored at. -/
theorem unit_piece (G : ℕ → BitVec 32) (k : ℕ) (h : ∀ a, (![0, 0, k] : Fin 3 → ℕ) a + (![1, 1, 1] : Fin 3 → ℕ) a ≤ S1x1x8.size a)
    (p : View.Piece (Elt F) S1x1x8 .i32) (hp : p = ⟨Rect.unit (s := S1x1x8) ![0, 0, k] ![1, 1, 1] h, fun _ => G k⟩) (j : p.1.shape.Idx) :
    p.2 j = G (p.1.emb j 2).val := by
  subst hp
  have e : ((Rect.unit (s := S1x1x8) ![0, 0, k] ![1, 1, 1] h).emb j 2).val = k := by
    rw [Rect.emb_apply]
    have hlt : (j 2).val < 1 := (j 2).isLt
    have e2 : (j 2).val = 0 := by omega
    simp [e2]
  exact congrArg G e.symm

/-- The histogram's block after the body: position `k` holds bin `k`'s total. -/
theorem out_hist : out0_A_4 c i arg1 harg1 arg2 harg2 arg3 harg3 arg4 harg4 arg5 harg5 x0 x1 x2
    = fun y => histWord (ldX arg1 harg1 x0) (ldThr arg3 harg3 x2) (y 2).val := by
  have hc := cover0_A_4 c i arg1 harg1 arg2 harg2 arg3 harg3 arg4 harg4 arg5 harg5 x0 x1 x2
  unfold out0_A_4
  rw [View.read_writes_eq_canon _ _ _ hc]
  rw [hist_pieces] at hc ⊢
  generalize histWord (ldX arg1 harg1 x0) (ldThr arg3 harg3 x2) = G at *
  funext y
  refine View.canon_apply_of_pieces (fun y : S1x1x8.Idx => G (y 2).val) _
    (fun p hp j => ?_) y (hc y)
  simp only [List.mem_cons, List.not_mem_nil, or_false] at hp
  rcases hp with hp | hp | hp | hp | hp | hp | hp | hp <;> exact unit_piece G _ _ p hp j

/-! ## The loads, read at an index -/

/-- The image as loaded, at a channel and a lane. -/
theorem ldX_apply (ch : Fin 64) (p : Fin 1024) : ldX arg1 harg1 x0 (ix2 ch p) = x0 (ix3 0 ch p) := by
  unfold ldX
  rw [View.readAt_eq_ld, harg1.read_unread]
  pointwise

/-- One tap's weights as loaded, at a filter and a channel. -/
theorem ldW_apply (t : ℕ) (f ch : Fin 64) : ldW arg2 harg2 x1 t (ix3 0 f ch) = x1 (ix3 ⟨t % 9, Nat.mod_lt _ (by omega)⟩ f ch) := by
  unfold ldW
  rw [View.readAt_eq_ld, harg2.read_unread]
  pointwise

/-- Eight rows of one tap's thresholds as loaded, at a row and a channel. -/
theorem ldThr_apply (t r : ℕ) (f a g : Fin 8) : ldThr arg3 harg3 x2 t r (ix4 0 f a g)
    = x2 (ix4 ⟨t % 9, Nat.mod_lt _ (by omega)⟩ ⟨8 * (r % 8) + f.val, by omega⟩ a g) := by
  unfold ldThr
  rw [View.readAt_eq_ld, harg3.read_unread]
  pointwise

end Cert.KernelIdeal.Body
-- ==== Proof.Window.lean ====
/- The body's image of one tap and its convolution, read at a lane over the extended reals. -/
module

public import proofs.«01_k».proof.Proof.Body
public import Idealize.ShloMosaic.Lib.MatmulPlain
public import Idealize.ShloMosaic.Lib.Tactic.WordOmega

@[expose] public section

noncomputable section

namespace Cert.KernelIdeal.Body

open Idealize.ShloMosaic Idealize.ShloMosaic.TcCoe Cert.KernelIdeal Cert.KernelIdeal.Gen

/-- The image rolled by `s`, at a lane: the lane `s` further on, around the end. -/
theorem rolled_apply (s : ℕ) (h : s ≤ 1024) (x : FVec Ideal S64x1024 .f32) (ch : Fin 64) (p : Fin 1024) :
    rolled s h x (ix2 ch p) = x (ix2 ch ⟨(p.val + s) % 1024, Nat.mod_lt _ (by omega)⟩) := by
  unfold rolled
  rw [concatenate_pair_apply]
  split <;> rename_i hp
  · have hp' : p.val < 1024 - s := hp
    pointwise
    exact congrArg x (congrArg₂ ix2 (Fin.ext rfl) (Fin.ext (show s + p.val = (p.val + s) % 1024 by omega)))
  · have hp' : ¬ p.val < 1024 - s := hp
    pointwise
    exact congrArg x (congrArg₂ ix2 (Fin.ext rfl) (Fin.ext (show p.val - (1024 - s) = (p.val + s) % 1024 by omega)))

/-- The masked image at a lane. -/
theorem masked_apply (m : IVec S1x1024 1) (x : FVec Ideal S64x1024 .f32) (ch : Fin 64) (p : Fin 1024) :
    masked m x (ix2 ch p) = if m (ix2 0 p) = 1#1 then x (ix2 ch p) else 0 := by
  unfold masked
  pointwise
  rfl

/-! ### The lane masks -/

/-- A truth value's bit is one exactly when it holds. -/
theorem ofBool_eq_one (q : Prop) [Decidable q] : BitVec.ofBool (decide q) = 1#1 ↔ q := by
  by_cases h : q <;> simp [h]

/-- The low five bits of a lane number. -/
theorem andi_31 (p : ℕ) (h : p < 1024) : IntOp.andi (BitVec.ofNat 32 p) 31#32 = BitVec.ofNat 32 (p % 32) := by
  apply BitVec.eq_of_toNat_eq
  unfold IntOp.andi
  rw [BitVec.toNat_and, BitVec.toNat_ofNat p, Nat.mod_eq_of_lt (by omega), BitVec.toNat_ofNat (p % 32),
    Nat.mod_eq_of_lt (a := p % 32) (by omega)]
  exact Nat.and_two_pow_sub_one_eq_mod p 5

/-- The lanes past the first row. -/
theorem rowLo_iff (p : Fin 1024) : rowLo (ix2 0 p) = 1#1 ↔ 32 ≤ p.val := by
  unfold rowLo lanes
  pointwise
  have := p.isLt
  word_omega

/-- The lanes before the last row. -/
theorem rowHi_iff (p : Fin 1024) : rowHi (ix2 0 p) = 1#1 ↔ p.val < 992 := by
  unfold rowHi lanes
  pointwise
  have := p.isLt
  word_omega

/-- The lanes past the first column. -/
theorem colLo_iff (p : Fin 1024) : colLo (ix2 0 p) = 1#1 ↔ p.val % 32 ≠ 0 := by
  unfold colLo cols lanes
  pointwise
  have := p.isLt
  rw [andi_31 _ this]
  word_omega

/-- The lanes before the last column. -/
theorem colHi_iff (p : Fin 1024) : colHi (ix2 0 p) = 1#1 ↔ p.val % 32 ≠ 31 := by
  unfold colHi cols lanes
  pointwise
  have := p.isLt
  rw [andi_31 _ this]
  word_omega

/-- Two masks together. -/
theorem andi_iff (a b : IVec S1x1024 1) (j : S1x1024.Idx) : andi a b j = 1#1 ↔ a j = 1#1 ∧ b j = 1#1 := by
  show IntOp.andi (a j) (b j) = 1#1 ↔ _
  generalize a j = u, b j = v
  revert u v
  decide

/-! ### One tap -/

/-- Tap `t` stays inside the image at lane `p`. -/
def Inside (t p : ℕ) : Prop := (1 ≤ p / 32 + t / 3 ∧ p / 32 + t / 3 ≤ 32) ∧ 1 ≤ p % 32 + t % 3 ∧ p % 32 + t % 3 ≤ 32

instance (t p : ℕ) : Decidable (Inside t p) := by unfold Inside; infer_instance

/-- The lane tap `t` reads at lane `p`. -/
def source (t p : ℕ) : ℕ := (p / 32 + t / 3 - 1) * 32 + (p % 32 + t % 3 - 1)

theorem source_lt (t : ℕ) (p : Fin 1024) (h : Inside t p) : source t p < 1024 := by
  unfold Inside at h; unfold source; omega

/-- A rolled and masked image at a lane, for a roll and a mask that are tap `t`'s. -/
theorem tap_apply (t s : ℕ) (h : s ≤ 1024) (m : IVec S1x1024 1) (x : FVec Ideal S64x1024 .f32) (ch : Fin 64) (p : Fin 1024)
    (hm : m (ix2 0 p) = 1#1 ↔ Inside t p) (hs : Inside t p → (p.val + s) % 1024 = source t p) :
    masked m (rolled s h x) (ix2 ch p) = if hi : Inside t p then x (ix2 ch ⟨source t p, source_lt t p hi⟩) else 0 := by
  rw [masked_apply, rolled_apply]
  by_cases hi : Inside t p
  · rw [if_pos (hm.2 hi), dif_pos hi]
    exact congrArg (fun q => x (ix2 ch q)) (Fin.ext (hs hi))
  · rw [if_neg fun e => hi (hm.1 e), dif_neg hi]

/-- The image as tap `t` sees it, at a lane: the source lane where the tap stays inside, zero elsewhere. -/
theorem window_apply (x : FVec Ideal S64x1024 .f32) (t : ℕ) (ht : t < 9) (ch : Fin 64) (p : Fin 1024) :
    window x t (ix2 ch p) = if hi : Inside t p then x (ix2 ch ⟨source t p, source_lt t p hi⟩) else 0 := by
  have hp := p.isLt
  interval_cases t <;> unfold window
  case «4» =>
    rw [dif_pos (by unfold Inside; omega)]
    exact congrArg (fun q => x (ix2 ch q)) (Fin.ext (show p.val = (p.val / 32 + 4 / 3 - 1) * 32 + (p.val % 32 + 4 % 3 - 1) by omega))
  all_goals
    refine tap_apply _ _ _ _ x ch p ?_ ?_
    · simp only [andi_iff, rowLo_iff, rowHi_iff, colLo_iff, colHi_iff, Inside]; omega
    · unfold Inside source; omega

/-- The tap's products, at a filter and a lane. -/
theorem product_apply (w : Vec Ideal S1x64x64 .f32) (x : FVec Ideal S64x1024 .f32) (f : Fin 64) (p : Fin 1024) :
    product w x (ix2 f p) = ∑ ch : Fin 64, w (ix3 0 f ch) * x (ix2 ch p) := by
  unfold product
  pointwise

/-- The nine taps' sum, at a filter and a lane. -/
theorem convolved_apply (w : ℕ → Vec Ideal S1x64x64 .f32) (x : FVec Ideal S64x1024 .f32) (f : Fin 64) (p : Fin 1024) (n : ℕ) :
    convolved w x n (ix2 f p) = ∑ t ∈ Finset.range n, ∑ ch : Fin 64, w t (ix3 0 f ch) * window x t (ix2 ch p) := by
  induction n with
  | zero => exact Ideal.ofBits_zero_f32
  | succ n ih =>
    rw [Finset.sum_range_succ, ← ih, ← product_apply]
    rfl

end Cert.KernelIdeal.Body
-- ==== Proof.Spec.lean ====
/- The two results as functions of the images and the weights, naming no program: the convolution, and the histogram of how
   many channels of a group exceed a threshold. -/
module

public import Idealize.ShloMosaic.Lib.Pointwise
public import Idealize.ShloMosaic.Lib.IdealHost
public import Idealize.ShloMosaic.Lib.WordSum

@[expose] public section

noncomputable section

namespace Cert.Spec

open Idealize.ShloMosaic

/-! ## Sums of words -/

/-- A fold of word additions from zero is a sum. -/
theorem fold_addi {ι : Type*} (S : Finset ι) (f : ι → BitVec 32) : S.fold IntOp.addi 0#32 f = ∑ i ∈ S, f i := by
  induction S using Finset.cons_induction with
  | empty => rfl
  | cons a S ha ih => rw [Finset.fold_cons, ih, Finset.sum_cons]; rfl

/-- The word of a sum is the sum of the words. -/
theorem ofNat_sum {ι : Type*} (S : Finset ι) (f : ι → ℕ) : BitVec.ofNat 32 (∑ i ∈ S, f i) = ∑ i ∈ S, BitVec.ofNat 32 (f i) := by
  induction S using Finset.cons_induction with
  | empty => rfl
  | cons a S ha ih => rw [Finset.sum_cons, Finset.sum_cons, ← ih, BitVec.ofNat_add]

/-- A sum of indicators as words is the word of the number of them that hold. -/
theorem sum_indicator {ι : Type*} (S : Finset ι) (P : ι → Prop) [DecidablePred P] :
    ∑ i ∈ S, (if P i then 1#32 else 0#32) = BitVec.ofNat 32 (∑ i ∈ S, if P i then 1 else 0) := by
  rw [ofNat_sum]
  exact Finset.sum_congr rfl fun i _ => by split <;> rfl

/-! ## The results -/

/-- The size of an extended real. -/
abbrev mag (v : EReal) : EReal := FloatOps.absf (F := Ideal) (φ := .f32) v

/-- The threshold. -/
abbrev eps : EReal := Ideal.ofBits .f32 0x322BCC77#32

variable (X : Fin 8 → Fin 64 → Fin 32 → Fin 32 → EReal) (W : Fin 64 → Fin 64 → Fin 9 → EReal)

/-- Tap `t` at row `y` and column `x` stays inside the image. -/
def Inside (t y x : ℕ) : Prop := (1 ≤ y + t / 3 ∧ y + t / 3 ≤ 32) ∧ 1 ≤ x + t % 3 ∧ x + t % 3 ≤ 32

instance (t y x : ℕ) : Decidable (Inside t y x) := by unfold Inside; infer_instance

/-- What tap `t` sees at row `y` and column `x`: the image there, zero outside it. -/
def win (n : Fin 8) (ch : Fin 64) (t : Fin 9) (y x : Fin 32) : EReal :=
  if h : Inside t y x then X n ch ⟨y.val + t.val / 3 - 1, by unfold Inside at h; omega⟩ ⟨x.val + t.val % 3 - 1, by unfold Inside at h; omega⟩
  else 0

/-- The convolution. -/
def conv (n : Fin 8) (f : Fin 64) (y x : Fin 32) : EReal := ∑ t : Fin 9, ∑ ch : Fin 64, W f ch t * win X n ch t y x

/-- How many of a group's eight channels have a product above the threshold. -/
def count (n : Fin 8) (f : Fin 64) (g : Fin 8) (t : Fin 9) (y x : Fin 32) : ℕ :=
  ∑ a : Fin 8, if eps < mag (W f ⟨g.val * 8 + a.val, by omega⟩ t) * mag (win X n ⟨g.val * 8 + a.val, by omega⟩ t y x) then 1 else 0

/-- The number of positions of image `n` whose count is `k`. -/
def histOf (k : ℕ) (n : Fin 8) : ℕ :=
  ∑ f : Fin 64, ∑ g : Fin 8, ∑ t : Fin 9, ∑ y : Fin 32, ∑ x : Fin 32, if count X W n f g t y x = k then 1 else 0

/-- The number of positions whose count is `k`. -/
def hist (k : ℕ) : ℕ := ∑ n : Fin 8, histOf X W k n

/-- No count exceeds eight. -/
theorem count_le (n : Fin 8) (f : Fin 64) (g : Fin 8) (t : Fin 9) (y x : Fin 32) : count X W n f g t y x ≤ 8 := by
  unfold count
  refine (Finset.sum_le_card_nsmul _ _ 1 fun a _ => by split <;> omega).trans ?_
  simp

/-- Every position has one of the nine counts. -/
theorem sum_hist : ∑ k ∈ Finset.range 9, hist X W k = 37748736 := by
  have h1 : ∀ n f g t y x, ∑ k ∈ Finset.range 9, (if count X W n f g t y x = k then 1 else 0) = 1 := by
    intro n f g t y x
    have := count_le X W n f g t y x
    rw [Finset.sum_ite_eq, if_pos (Finset.mem_range.2 (by omega))]
  unfold hist histOf
  rw [Finset.sum_comm]
  simp_rw [Finset.sum_comm (s := Finset.range 9), h1]
  simp

/-- The last bin is what the other eight leave. -/
theorem hist_last : hist X W 8 = 37748736 - ∑ k ∈ Finset.range 8, hist X W k := by
  have := sum_hist X W
  rw [Finset.sum_range_succ] at this
  omega

/-! ## The threshold moved across the product -/

/-- The threshold is a positive real. -/
theorem eps_pos : ∃ r : ℝ, 0 < r ∧ eps = (r : EReal) := by
  refine ⟨_, ?_, by simp [eps, Ideal.ofBits, Ideal.ieee, -EReal.coe_mul]; rfl⟩
  norm_num

/-- A size is not negative. -/
theorem mag_nonneg (v : EReal) : 0 ≤ mag v := by
  show 0 ≤ max v (-v)
  rcases le_total 0 v with h | h
  · exact le_max_of_le_left h
  · exact le_max_of_le_right (EReal.neg_nonneg.2 h)

/-- A positive real over a size is below another exactly when it is below their product. -/
theorem div_lt_iff (e : ℝ) (he : 0 < e) (a b : EReal) (ha : 0 ≤ a) (hb : 0 ≤ b) : Ideal.div e a < b ↔ (e : EReal) < a * b := by
  unfold Ideal.div
  induction a using EReal.rec with
  | bot => exact absurd ha (by simp)
  | top =>
    rw [if_neg (by simp), EReal.inv_top, mul_zero]
    rcases hb.lt_or_eq with h | h
    · rw [EReal.top_mul_of_pos h]; exact ⟨fun _ => EReal.coe_lt_top e, fun _ => h⟩
    · rw [← h, mul_zero]; simp [he.le]
  | coe a =>
    have ha' : 0 ≤ a := EReal.coe_nonneg.1 ha
    rcases ha'.lt_or_eq with h | h
    · rw [if_neg (by simpa using h.ne')]
      induction b using EReal.rec with
      | bot => exact absurd hb (by simp)
      | top =>
        rw [EReal.coe_mul_top_of_pos h, ← EReal.coe_inv, ← EReal.coe_mul]
        exact ⟨fun _ => EReal.coe_lt_top _, fun _ => EReal.coe_lt_top _⟩
      | coe b =>
        rw [← EReal.coe_inv, ← EReal.coe_mul, ← EReal.coe_mul, EReal.coe_lt_coe_iff, EReal.coe_lt_coe_iff, ← div_eq_mul_inv, _root_.div_lt_iff₀ h, mul_comm]
    · rw [← h]; simp [he, he.le]

/-- The threshold over one size is below another exactly when it is below their product. -/
theorem thr_lt_iff (w v : EReal) : Ideal.div eps (mag w) < mag v ↔ eps < mag w * mag v := by
  obtain ⟨r, hr, e⟩ := eps_pos
  rw [e]
  exact div_lt_iff r hr _ _ (mag_nonneg w) (mag_nonneg v)

end Cert.Spec
-- ==== Proof.Packed.lean ====
/- The body's packed counters, read at a lane: each total is the number of rows, channel groups and lanes of its count. -/
module

public import proofs.«01_k».proof.Proof.Body
public import proofs.«01_k».proof.Proof.Spec
public import Idealize.ShloMosaic.Lib.WordSum
public import Idealize.ShloMosaic.Lib.PackedFields

@[expose] public section

noncomputable section

namespace Cert.KernelIdeal.Body

open Idealize.ShloMosaic Idealize.ShloMosaic.TcCoe Cert.KernelIdeal Cert.KernelIdeal.Gen
open Idealize.ShloMosaic.PackedFields
open Cert.Spec (fold_addi ofNat_sum sum_indicator)

/-! ## Sums of packed words -/

/-- Fields of a sum, when no field up to that one overflows. -/
theorem field_sum {ι : Type*} (w k : ℕ) (hw : 0 < w) (S : Finset ι) (a : ι → ℕ)
    (h : ∀ i ≤ k, ∑ s ∈ S, field w i (a s) < 2 ^ w) : field w k (∑ s ∈ S, a s) = ∑ s ∈ S, field w k (a s) := by
  induction S using Finset.cons_induction generalizing k with
  | empty => simp [field]
  | cons b S hb ih =>
    have h' : ∀ i ≤ k, ∑ s ∈ S, field w i (a s) < 2 ^ w := fun i hi => by
      have := h i hi; rw [Finset.sum_cons] at this; omega
    rw [Finset.sum_cons, Finset.sum_cons, field_add, ih k h']
    intro i hi
    rw [ih i fun j hj => h' j (by omega)]
    have := h i hi
    rwa [Finset.sum_cons] at this

/-! ## One word of eight rows -/

/-- How many of the eight channels of group `g` exceed their thresholds at a lane, in row `f`. -/
def above (x : FVec Ideal S64x1024 .f32) (thr : Vec Ideal S1x8x8x8 .f32) (f g : Fin 8) (p : Fin 1024) : ℕ :=
  ∑ a : Fin 8, if thr (ix4 0 f a g) < FloatOps.absf (x (ix2 ⟨a.val * 8 + g.val, by omega⟩ p)) then 1 else 0

/-- No count exceeds eight. -/
theorem above_le (x : FVec Ideal S64x1024 .f32) (thr : Vec Ideal S1x8x8x8 .f32) (f g : Fin 8) (p : Fin 1024) :
    above x thr f g p ≤ 8 := by
  unfold above
  refine (Finset.sum_le_card_nsmul _ _ 1 fun a _ => by split <;> omega).trans ?_
  simp

/-- The word a count raises: one in the count's four-bit field, none for a count of eight. -/
def raise (n : ℕ) : BitVec 32 := Scalar.select (IntOp.cmpi .slt (BitVec.ofNat 32 n) 8#32)
  (IntOp.shli .vector 1#32 (IntOp.shli .vector (BitVec.ofNat 32 n) 2#32)) 0#32

/-- The word a count raises, as a number. -/
theorem raise_toNat (n : ℕ) (h : n ≤ 8) : (raise n).toNat = if n < 8 then 1 <<< (4 * n) else 0 := by
  interval_cases n <;> decide

/-- The word a count raises stays under an eighth of the words. -/
theorem raise_le (n : ℕ) (h : n ≤ 8) : (raise n).toNat ≤ 268435456 := by
  interval_cases n <;> decide

/-- The packed word at a lane is the sum of the rows' words. -/
theorem packed_apply (x : FVec Ideal S64x1024 .f32) (thr : Vec Ideal S1x8x8x8 .f32) (g : Fin 8) (p : Fin 1024) :
    packed x thr (ix2 g p) = ∑ f : Fin 8, raise (above x thr f g p) := by
  unfold packed
  dsimp only
  pointwise
  rw [fold_addi]
  refine Finset.sum_congr rfl fun f _ => ?_
  rw [fold_addi]
  have k : ∀ w n, w = BitVec.ofNat 32 n → Scalar.select (IntOp.cmpi .slt w 8#32)
      (IntOp.shli .vector 1#32 (IntOp.shli .vector w 2#32)) 0#32 = raise n := by rintro _ _ rfl; rfl
  refine k _ _ (Eq.trans (Finset.sum_congr rfl fun a _ => ?_) (sum_indicator Finset.univ fun a : Fin 8 =>
    thr (ix4 0 f a g) < FloatOps.absf (x (ix2 ⟨a.val * 8 + g.val, by omega⟩ p))))
  split <;> rename_i h
  · exact if_pos h
  · exact if_neg h

/-- The packed word at a lane, as a number. -/
theorem packed_toNat (x : FVec Ideal S64x1024 .f32) (thr : Vec Ideal S1x8x8x8 .f32) (g : Fin 8) (p : Fin 1024) :
    (packed x thr (ix2 g p)).toNat = ∑ f : Fin 8, if above x thr f g p < 8 then 1 <<< (4 * above x thr f g p) else 0 := by
  have hb : ∑ f : Fin 8, (raise (above x thr f g p)).toNat ≤ 8 * 268435456 := by
    refine (Finset.sum_le_card_nsmul _ _ 268435456 fun f _ => raise_le _ (above_le x thr f g p)).trans ?_
    rw [Finset.card_univ, Fintype.card_fin, smul_eq_mul]
  rw [packed_apply, WordSum.toNat_sum _ _ (by omega)]
  exact Finset.sum_congr rfl fun f _ => raise_toNat _ (above_le x thr f g p)

/-- Field `k` of the packed word is the number of rows whose count is `k`. -/
theorem field_packed (x : FVec Ideal S64x1024 .f32) (thr : Vec Ideal S1x8x8x8 .f32) (g : Fin 8) (p : Fin 1024) (k : ℕ) (hk : k < 8) :
    field 4 k (packed x thr (ix2 g p)).toNat = ∑ f : Fin 8, if above x thr f g p = k then 1 else 0 := by
  have hfield : ∀ i < 8, ∀ f : Fin 8, field 4 i (if above x thr f g p < 8 then 1 <<< (4 * above x thr f g p) else 0)
      = if above x thr f g p = i then 1 else 0 := by
    intro i hi f
    split
    · rw [field_one_shiftLeft _ _ _ (by omega)]
      simp only [eq_comm]
    · rw [if_neg (by omega)]; simp [field]
  rw [packed_toNat, field_sum 4 k (by omega)]
  · exact Finset.sum_congr rfl fun f _ => hfield k hk f
  · intro i hi
    rw [Finset.sum_congr rfl fun f _ => hfield i (by omega) f]
    refine lt_of_le_of_lt (Finset.sum_le_card_nsmul _ _ 1 fun f _ => by split <;> omega) (by simp)

/-- The even or the odd fields, as bin `k`'s parity asks. -/
theorem field_pick (q : IVec S8x1024 32) (j : S8x1024.Idx) (k i : ℕ) :
    field 8 i ((if k % 2 = 0 then evens q else odds q) j).toNat = field 4 (2 * i + k % 2) (q j).toNat := by
  split
  · rename_i h
    rw [h]
    exact field_andi_even (m := 252645135#32) isEvenMask_4 i (q j)
  · rename_i h
    rw [show k % 2 = 1 by omega]
    exact field_shrui_andi_odd (m := 252645135#32) isEvenMask_4 (by omega) i (q j)

/-! ## Twenty-four words added -/

/-- Fields of the sum of up to 24 words, when no word's field exceeds eight. -/
theorem field_added (g : ℕ → IVec S8x1024 32) (j : S8x1024.Idx) (h : ∀ s, ∀ i < 4, field 8 i (g s j).toNat ≤ 8)
    (n : ℕ) (hn : n ≤ 24) (i : ℕ) (hi : i < 4) :
    field 8 i (added g n j).toNat = ∑ s ∈ Finset.range n, field 8 i (g s j).toNat := by
  induction n generalizing i with
  | zero => show field 8 i (0#32).toNat = _; simp [field]
  | succ n ih =>
    rw [Finset.sum_range_succ, ← ih (by omega) i hi]
    refine field_addi (w := 8) (n := 4) rfl (added g n j) (g n j) (fun k hk => ?_) i hi
    rw [ih (by omega) k hk]
    have h1 : ∑ s ∈ Finset.range n, field 8 k (g s j).toNat ≤ n * 8 := by
      refine (Finset.sum_le_card_nsmul _ _ 8 fun s _ => h s k hk).trans ?_
      simp
    have h2 := h n k hk
    omega

/-- One eight-bit field, as a number. -/
theorem field8_toNat (i : ℕ) (hi : i < 4) (q : IVec S8x1024 32) (j : S8x1024.Idx) :
    (field8 i q j).toNat = field 8 i (q j).toNat := by
  unfold field8
  show (IntOp.andi (IntOp.shrui .vector (q j) (BitVec.ofNat 32 (8 * i))) 255#32).toNat = _
  have h : (BitVec.ofNat 32 (8 * i)).toNat = 8 * i := by rw [BitVec.toNat_ofNat]; omega
  unfold IntOp.andi IntOp.shrui field
  rw [if_pos (by rw [h]; omega), BitVec.toNat_and, BitVec.ushiftRight_eq', BitVec.toNat_ushiftRight, h]
  exact Nat.and_two_pow_sub_one_eq_mod _ 8

/-! ## The bins -/

/-- Bin `k` at a lane: the word of the number of steps and rows whose count is `k`. -/
theorem bin_apply (x : FVec Ideal S64x1024 .f32) (thr : ℕ → ℕ → Vec Ideal S1x8x8x8 .f32) (k : ℕ) (hk : k < 8) (g : Fin 8) (p : Fin 1024) :
    bin (fun q => if k % 2 = 0 then evens q else odds q) x thr (k / 2) (ix2 g p)
      = BitVec.ofNat 32 (∑ r ∈ Finset.range 3, ∑ n ∈ Finset.range 24, ∑ f : Fin 8,
          if above (window x ((24 * r + n) / 8)) (thr ((24 * r + n) / 8) ((24 * r + n) % 8)) f g p = k then 1 else 0) := by
  have hfield : ∀ s, ∀ i < 4, field 8 i ((if k % 2 = 0 then evens (stepWord x thr s) else odds (stepWord x thr s)) (ix2 g p)).toNat
      = ∑ f : Fin 8, if above (window x (s / 8)) (thr (s / 8) (s % 8)) f g p = 2 * i + k % 2 then 1 else 0 := by
    intro s i hi
    rw [field_pick, stepWord, field_packed _ _ _ _ _ (by omega)]
  have hstep : ∀ r, field8 (k / 2) (added (fun n => if k % 2 = 0 then evens (stepWord x thr (24 * r + n)) else odds (stepWord x thr (24 * r + n))) 24) (ix2 g p)
      = BitVec.ofNat 32 (∑ n ∈ Finset.range 24, ∑ f : Fin 8,
          if above (window x ((24 * r + n) / 8)) (thr ((24 * r + n) / 8) ((24 * r + n) % 8)) f g p = k then 1 else 0) := by
    intro r
    rw [← BitVec.setWidth_eq (field8 _ _ _), ← BitVec.ofNat_toNat, field8_toNat _ (by omega), field_added _ _ _ 24 le_rfl _ (by omega)]
    · refine congrArg _ (Finset.sum_congr rfl fun n _ => ?_)
      rw [hfield _ _ (by omega), show 2 * (k / 2) + k % 2 = k by omega]
    · intro s i hi
      rw [hfield _ _ hi]
      refine (Finset.sum_le_card_nsmul _ _ 1 fun f _ => by split <;> omega).trans (by simp)
  rw [ofNat_sum, Finset.sum_congr rfl fun r _ => (hstep r).symm, Finset.sum_range_succ, Finset.sum_range_succ, Finset.sum_range_succ,
    Finset.sum_range_zero]
  rfl

/-- A bin's total is the sum over the channel groups and the lanes. -/
theorem total_apply (b : IVec S8x1024 32) : total b = ∑ g : Fin 8, ∑ p : Fin 1024, b (ix2 g p) := by
  unfold total
  pointwise
  rw [fold_addi, Fintype.sum_prod_type]

/-- The total stored at position `k`: the word of the number of channel groups, lanes, steps and rows whose count is `k`. -/
theorem histWord_eq (x : FVec Ideal S64x1024 .f32) (thr : ℕ → ℕ → Vec Ideal S1x8x8x8 .f32) (k : ℕ) (hk : k < 8) :
    histWord x thr k = BitVec.ofNat 32 (∑ g : Fin 8, ∑ p : Fin 1024, ∑ r ∈ Finset.range 3, ∑ n ∈ Finset.range 24, ∑ f : Fin 8,
      if above (window x ((24 * r + n) / 8)) (thr ((24 * r + n) / 8) ((24 * r + n) % 8)) f g p = k then 1 else 0) := by
  unfold histWord
  rw [total_apply, ofNat_sum]
  refine Finset.sum_congr rfl fun g _ => ?_
  rw [ofNat_sum]
  exact Finset.sum_congr rfl fun p _ => bin_apply x thr k hk g p

end Cert.KernelIdeal.Body
-- ==== Proof.Host.lean ====
/- The program's host operations before the kernel's launch, and the blocks the launch hands the body, read at an index. -/
module

public import proofs.«01_k».proof.Proof.Gen.KernelIdeal.Frame
public import Idealize.ShloMosaic.Lib.Pointwise
public import Idealize.ShloMosaic.Lib.StableHlo.ReadAt
public import Idealize.ShloMosaic.Lib.Tactic.IndexArith

@[expose] public section

noncomputable section

namespace Cert.KernelIdeal.Host

open Idealize.ShloMosaic Idealize.ShloMosaic.TcCoe Cert.KernelIdeal Cert.KernelIdeal.Gen

variable (m : (ℓ : Loc nD τ sig) → Buf (Elt Ideal) ℓ) (c : Dev nD)

/-- The images. -/
abbrev argX : Vec Ideal S8x64x32x32 .f32 := m ((c.tc : Thread nD τ).loc main_arg0)
/-- The weights. -/
abbrev argW : Vec Ideal S64x64x3x3 .f32 := m ((c.tc : Thread nD τ).loc main_arg1)

/-- The images as the launch finds them: channels regrouped, rows and columns in one axis of lanes. -/
theorem V_x (n : Fin 8) (ch : Fin 64) (p : Fin 1024) : (V m c main_v2 : Vec Ideal S8x64x1024 .f32) (ix3 n ch p)
    = argX m c (ix4 n ⟨ch.val % 8 * 8 + ch.val / 8, by omega⟩ ⟨p.val / 32, by omega⟩ ⟨p.val % 32, by omega⟩) := by
  unfold V V0
  after_reads_at

/-- The weights as the launch finds them: taps first, channels regrouped. -/
theorem V_w (t : Fin 9) (f ch : Fin 64) : (V m c main_v6 : Vec Ideal S9x64x64 .f32) (ix3 t f ch)
    = argW m c (ix4 f ⟨ch.val % 8 * 8 + ch.val / 8, by omega⟩ ⟨t.val / 3, by omega⟩ ⟨t.val % 3, by omega⟩) := by
  unfold V V0
  after_reads_at

/-- The constant the thresholds are made of. -/
abbrev eps : Ideal .f32 := Scalar.ofBits .f32 0x322BCC77#32

/-- The thresholds as the launch finds them: the constant over the weights' sizes. -/
theorem V_thr (t : Fin 9) (f : Fin 64) (a g : Fin 8) : (V m c main_v9 : Vec Ideal S9x64x8x8 .f32) (ix4 t f a g)
    = (Ideal.div eps (FloatOps.absf (F := Ideal) (φ := .f32) (argW m c (ix4 f ⟨g.val * 8 + a.val, by omega⟩ ⟨t.val / 3, by omega⟩ ⟨t.val % 3, by omega⟩))) : EReal) := by
  unfold V V0
  after_reads_at

/-! ## The blocks -/

/-- The grid's points are the images. -/
abbrev img (t : Fin cfg0.N) : Fin 8 := t.cast N_0

/-- The first window's block at a point is that image. -/
theorem index_x (t : Fin cfg0.N) : win0_0.index t 0 = t.val ∧ win0_0.index t 1 = 0 ∧ win0_0.index t 2 = 0 := by
  rcases fin_N0 t with rfl | rfl | rfl | rfl | rfl | rfl | rfl | rfl <;> decide

/-- The second window's block is the whole array. -/
theorem index_w (t : Fin cfg0.N) : win0_1.index t 0 = 0 ∧ win0_1.index t 1 = 0 ∧ win0_1.index t 2 = 0 := by
  rcases fin_N0 t with rfl | rfl | rfl | rfl | rfl | rfl | rfl | rfl <;> decide

/-- The third window's block is the whole array. -/
theorem index_thr (t : Fin cfg0.N) : win0_2.index t 0 = 0 ∧ win0_2.index t 1 = 0 ∧ win0_2.index t 2 = 0 ∧ win0_2.index t 3 = 0 := by
  rcases fin_N0 t with rfl | rfl | rfl | rfl | rfl | rfl | rfl | rfl <;> decide

/-- The image's block at an index. -/
theorem blk_x (t : Fin cfg0.N) (ch : Fin 64) (p : Fin 1024) : (iblk m c 0 t : Vec Ideal S1x64x1024 .f32) (ix3 0 ch p)
    = (V m c main_v2 : Vec Ideal S8x64x1024 .f32) (ix3 (img t) ch p) := by
  have h := index_x t
  unfold iblk
  rw [View.read_apply]
  show V m c main_v2 _ = V m c main_v2 _
  refine congrArg (V m c main_v2) (funext fun a => Fin.ext ?_)
  match a with
  | ⟨0, _⟩ => show win0_0.index t 0 * 1 + 1 * 0 = t.val; omega
  | ⟨1, _⟩ => show win0_0.index t 1 * 64 + 1 * ch.val = ch.val; omega
  | ⟨2, _⟩ => show win0_0.index t 2 * 1024 + 1 * p.val = p.val; omega

/-- The weights' block at an index. -/
theorem blk_w (t : Fin cfg0.N) (k : Fin 9) (f ch : Fin 64) : (iblk m c 1 t : Vec Ideal S9x64x64 .f32) (ix3 k f ch)
    = (V m c main_v6 : Vec Ideal S9x64x64 .f32) (ix3 k f ch) := by
  have h := index_w t
  unfold iblk
  rw [View.read_apply]
  show V m c main_v6 _ = V m c main_v6 _
  refine congrArg (V m c main_v6) (funext fun a => Fin.ext ?_)
  match a with
  | ⟨0, _⟩ => show win0_1.index t 0 * 9 + 1 * k.val = k.val; omega
  | ⟨1, _⟩ => show win0_1.index t 1 * 64 + 1 * f.val = f.val; omega
  | ⟨2, _⟩ => show win0_1.index t 2 * 64 + 1 * ch.val = ch.val; omega

/-- The thresholds' block at an index. -/
theorem blk_thr (t : Fin cfg0.N) (k : Fin 9) (f : Fin 64) (a g : Fin 8) : (iblk m c 2 t : Vec Ideal S9x64x8x8 .f32) (ix4 k f a g)
    = (V m c main_v9 : Vec Ideal S9x64x8x8 .f32) (ix4 k f a g) := by
  have h := index_thr t
  unfold iblk
  rw [View.read_apply]
  show V m c main_v9 _ = V m c main_v9 _
  refine congrArg (V m c main_v9) (funext fun b => Fin.ext ?_)
  match b with
  | ⟨0, _⟩ => show win0_2.index t 0 * 9 + 1 * k.val = k.val; omega
  | ⟨1, _⟩ => show win0_2.index t 1 * 64 + 1 * f.val = f.val; omega
  | ⟨2, _⟩ => show win0_2.index t 2 * 8 + 1 * a.val = a.val; omega
  | ⟨3, _⟩ => show win0_2.index t 3 * 8 + 1 * g.val = g.val; omega

end Cert.KernelIdeal.Host
-- ==== Proof.Value.lean ====
/- What the body leaves in its two blocks, from the arguments: one image's convolution, and one image's histogram. -/
module

public import proofs.«01_k».proof.Proof.Window
public import proofs.«01_k».proof.Proof.Packed
public import proofs.«01_k».proof.Proof.Host

@[expose] public section

noncomputable section

namespace Cert.KernelIdeal.Value

open Idealize.ShloMosaic Idealize.ShloMosaic.TcCoe Cert.KernelIdeal Cert.KernelIdeal.Gen
open Cert.KernelIdeal.Body Cert.KernelIdeal.Host

/-! ## Re-indexing sums -/

/-- The channel that position `ch` of the regrouped channels holds. -/
def chan (ch : Fin 64) : Fin 64 := ⟨ch.val % 8 * 8 + ch.val / 8, by omega⟩

/-- Regrouping twice is the identity. -/
theorem chan_chan : Function.Involutive chan := fun ch => Fin.ext (by show (ch.val % 8 * 8 + ch.val / 8) % 8 * 8 + (ch.val % 8 * 8 + ch.val / 8) / 8 = ch.val; omega)

/-- A sum over the channels is the sum over the regrouped ones. -/
theorem sum_chan {M : Type*} [AddCommMonoid M] (f : Fin 64 → M) : ∑ ch, f (chan ch) = ∑ ch, f ch :=
  Equiv.sum_comp chan_chan.toPerm f

/-- The row of a lane. -/
abbrev row (p : Fin 1024) : Fin 32 := ⟨p.val / 32, by omega⟩
/-- The column of a lane. -/
abbrev col (p : Fin 1024) : Fin 32 := ⟨p.val % 32, by omega⟩

/-- A sum over the lanes is a sum over the rows and columns. -/
theorem sum_lanes (A : Fin 32 → Fin 32 → ℕ) : ∑ p : Fin 1024, A (row p) (col p) = ∑ y, ∑ z, A y z := by
  rw [← Fintype.sum_prod_type' (f := A)]
  exact Equiv.sum_comp (finProdFinEquiv (m := 32) (n := 32)).symm fun q => A q.1 q.2

/-- A sum over the filters is a sum over eight groups of eight. -/
theorem sum_filters (A : Fin 64 → ℕ) : ∑ r : Fin 8, ∑ f : Fin 8, A ⟨8 * r.val + f.val, by omega⟩ = ∑ F, A F := by
  rw [← Fintype.sum_prod_type' (f := fun (r f : Fin 8) => A ⟨8 * r.val + f.val, by omega⟩)]
  rw [← Equiv.sum_comp (finProdFinEquiv (m := 8) (n := 8)) A]
  exact Finset.sum_congr rfl fun q _ => congrArg A (Fin.ext (Nat.add_comm _ _))

/-- A sum over `a` runs of `b` steps is a sum over all the steps. -/
theorem sum_runs (a b : ℕ) (G : ℕ → ℕ) : ∑ i ∈ Finset.range a, ∑ j ∈ Finset.range b, G (b * i + j) = ∑ s ∈ Finset.range (b * a), G s := by
  induction a with
  | zero => simp
  | succ a ih => rw [Finset.sum_range_succ, ih, Nat.mul_succ, Finset.sum_range_add]

/-- Three runs of twenty-four steps are nine taps of eight groups of rows. -/
theorem sum_steps (H : ℕ → ℕ → ℕ) : ∑ r ∈ Finset.range 3, ∑ n ∈ Finset.range 24, H ((24 * r + n) / 8) ((24 * r + n) % 8)
    = ∑ t : Fin 9, ∑ r : Fin 8, H t.val r.val := by
  rw [sum_runs 3 24 fun s => H (s / 8) (s % 8), ← sum_runs 9 8 fun s => H (s / 8) (s % 8), Finset.sum_range]
  refine Finset.sum_congr rfl fun t _ => ?_
  rw [Finset.sum_range]
  refine Finset.sum_congr rfl fun r _ => ?_
  have h1 : (8 * t.val + r.val) / 8 = t.val := by omega
  have h2 : (8 * t.val + r.val) % 8 = r.val := by omega
  rw [h1, h2]

/-! ## One image -/

section Image

variable (X : Fin 8 → Fin 64 → Fin 32 → Fin 32 → EReal) (W : Fin 64 → Fin 64 → Fin 9 → EReal) (n : Fin 8)
variable (x : FVec Ideal S64x1024 .f32) (hx : ∀ ch p, x (ix2 ch p) = X n (chan ch) (row p) (col p))
include hx

/-- The lanes a tap sees are the image's. -/
theorem window_eq (t : Fin 9) (ch : Fin 64) (p : Fin 1024) : window x t.val (ix2 ch p) = Spec.win X n (chan ch) t (row p) (col p) := by
  rw [window_apply x t.val t.isLt]
  unfold Spec.win
  by_cases h : Inside t.val p.val
  · have h' : Spec.Inside t.val (row p).val (col p).val := h
    rw [dif_pos h, dif_pos h', hx]
    unfold Inside at h
    refine congrArg₂ (X n (chan ch)) (Fin.ext ?_) (Fin.ext ?_)
    · show source t.val p.val / 32 = p.val / 32 + t.val / 3 - 1
      unfold source; omega
    · show source t.val p.val % 32 = p.val % 32 + t.val % 3 - 1
      unfold source; omega
  · have h' : ¬ Spec.Inside t.val (row p).val (col p).val := h
    rw [dif_neg h, dif_neg h']

/-- The nine taps' sum is the convolution. -/
theorem convolved_eq (w : ℕ → Vec Ideal S1x64x64 .f32) (hw : ∀ (t : Fin 9) (f ch : Fin 64), w t.val (ix3 0 f ch) = W f (chan ch) t)
    (f : Fin 64) (p : Fin 1024) : convolved w x 9 (ix2 f p) = Spec.conv X W n f (row p) (col p) := by
  rw [convolved_apply, Finset.sum_range]
  unfold Spec.conv
  refine Finset.sum_congr rfl fun t _ => ?_
  rw [← sum_chan fun ch => W f ch t * Spec.win X n ch t (row p) (col p)]
  refine Finset.sum_congr rfl fun ch _ => ?_
  rw [hw, window_eq X n x hx]

variable (thr : ℕ → ℕ → Vec Ideal S1x8x8x8 .f32) (hthr : ∀ (t : Fin 9) (r f a g : Fin 8), thr t.val r.val (ix4 0 f a g)
  = (Ideal.div Spec.eps (Spec.mag (W ⟨8 * r.val + f.val, by omega⟩ ⟨g.val * 8 + a.val, by omega⟩ t)) : EReal))
include hthr

/-- The count of a group is the specification's: a size is above the threshold's quotient when the product is above the threshold. -/
theorem above_eq (t : Fin 9) (r f g : Fin 8) (p : Fin 1024) : above (window x t.val) (thr t.val r.val) f g p
    = Spec.count X W n ⟨8 * r.val + f.val, by omega⟩ g t (row p) (col p) := by
  unfold above Spec.count
  refine Finset.sum_congr rfl fun a _ => ?_
  have hc : chan ⟨a.val * 8 + g.val, by omega⟩ = (⟨g.val * 8 + a.val, by omega⟩ : Fin 64) := Fin.ext (by
    show (a.val * 8 + g.val) % 8 * 8 + (a.val * 8 + g.val) / 8 = g.val * 8 + a.val; omega)
  have e := Spec.thr_lt_iff (W ⟨8 * r.val + f.val, by omega⟩ ⟨g.val * 8 + a.val, by omega⟩ t)
    (Spec.win X n ⟨g.val * 8 + a.val, by omega⟩ t (row p) (col p))
  rw [hthr, window_eq X n x hx, hc]
  split <;> rename_i h
  · exact (if_pos (e.1 h)).symm
  · exact (if_neg fun h' => h (e.2 h')).symm

/-- The word of a bin is the number of the image's positions with that count. -/
theorem histWord_value (k : ℕ) (hk : k < 8) : histWord x thr k = BitVec.ofNat 32 (Spec.histOf X W k n) := by
  rw [histWord_eq x thr k hk]
  refine congrArg _ ?_
  unfold Spec.histOf
  rw [Finset.sum_comm (s := (Finset.univ : Finset (Fin 64)))]
  refine Finset.sum_congr rfl fun g _ => ?_
  have e (p : Fin 1024) : (∑ r ∈ Finset.range 3, ∑ n ∈ Finset.range 24, ∑ f : Fin 8,
      if above (window x ((24 * r + n) / 8)) (thr ((24 * r + n) / 8) ((24 * r + n) % 8)) f g p = k then 1 else 0)
      = ∑ t : Fin 9, ∑ F : Fin 64, if Spec.count X W n F g t (row p) (col p) = k then 1 else 0 := by
    rw [sum_steps fun t r => ∑ f : Fin 8, if above (window x t) (thr t r) f g p = k then 1 else 0]
    refine Finset.sum_congr rfl fun t _ => ?_
    rw [← sum_filters]
    refine Finset.sum_congr rfl fun r _ => Finset.sum_congr rfl fun f _ => ?_
    rw [above_eq X W n x hx thr hthr]
  rw [Finset.sum_congr rfl fun p _ => e p, Finset.sum_comm]
  rw [Finset.sum_congr rfl fun t _ => Finset.sum_comm, Finset.sum_comm]
  refine Finset.sum_congr rfl fun F _ => Finset.sum_congr rfl fun t _ => ?_
  exact sum_lanes fun y z => if Spec.count X W n F g t y z = k then 1 else 0

end Image

/-! ## The blocks after the body -/

variable (m : (ℓ : Loc nD τ sig) → Buf (Elt Ideal) ℓ) (c : Dev nD)

/-- The images by coordinates. -/
abbrev fX (n : Fin 8) (ch : Fin 64) (y z : Fin 32) : EReal := argX m c (ix4 n ch y z)
/-- The weights by tap. -/
abbrev fW (f ch : Fin 64) (t : Fin 9) : EReal := argW m c (ix4 f ch ⟨t.val / 3, by omega⟩ ⟨t.val % 3, by omega⟩)

/-- The image the body loads. -/
theorem ldX_eq (t : Fin cfg0.N) (arg1 : Memref sig .tc .vmem S1x64x1024 .f32) (harg1 : arg1.IsWhole) (ch : Fin 64) (p : Fin 1024) :
    ldX arg1 harg1 (iblk m c 0 t) (ix2 ch p) = fX m c (img t) (chan ch) (row p) (col p) := by
  rw [ldX_apply]
  exact (blk_x m c t ch p).trans (V_x m c (img t) ch p)

/-- The weights the body loads. -/
theorem ldW_eq (t : Fin cfg0.N) (arg2 : Memref sig .tc .vmem S9x64x64 .f32) (harg2 : arg2.IsWhole) (k : Fin 9) (f ch : Fin 64) :
    ldW arg2 harg2 (iblk m c 1 t) k.val (ix3 0 f ch) = fW m c f (chan ch) k := by
  rw [ldW_apply, show (⟨k.val % 9, Nat.mod_lt _ (by decide)⟩ : Fin 9) = k from Fin.ext (Nat.mod_eq_of_lt k.isLt)]
  exact (blk_w m c t k f ch).trans (V_w m c k f ch)

/-- The thresholds the body loads. -/
theorem ldThr_eq (t : Fin cfg0.N) (arg3 : Memref sig .tc .vmem S9x64x8x8 .f32) (harg3 : arg3.IsWhole) (k : Fin 9) (r f a g : Fin 8) :
    ldThr arg3 harg3 (iblk m c 2 t) k.val r.val (ix4 0 f a g)
      = (Ideal.div Spec.eps (Spec.mag (fW m c ⟨8 * r.val + f.val, by omega⟩ ⟨g.val * 8 + a.val, by omega⟩ k)) : EReal) := by
  rw [ldThr_apply, show (⟨k.val % 9, Nat.mod_lt _ (by decide)⟩ : Fin 9) = k from Fin.ext (Nat.mod_eq_of_lt k.isLt),
    show (⟨8 * (r.val % 8) + f.val, by omega⟩ : Fin 64) = ⟨8 * r.val + f.val, by omega⟩ from Fin.ext (by
      show 8 * (r.val % 8) + f.val = 8 * r.val + f.val; omega)]
  exact (blk_thr m c t k _ a g).trans (V_thr m c k _ a g)

/-- The first output's block after the body is the image's convolution. -/
theorem outs_conv (t : Fin cfg0.N) (f : Fin 64) (p : Fin 1024) :
    (outsAt0 m c t).1 (ix3 0 f p) = Spec.conv (fX m c) (fW m c) (img t) f (row p) (col p) := by
  unfold outsAt0
  dsimp only
  rw [out_conv]
  pointwise
  exact convolved_eq (fX m c) (fW m c) (img t) _ (ldX_eq m c t _ _) _ (ldW_eq m c t _ _) f p

/-- The second output's block after the body is the first eight bins of the image's histogram. -/
theorem outs_hist (t : Fin cfg0.N) (k : Fin 8) :
    (outsAt0 m c t).2 (ix3 0 0 k) = BitVec.ofNat 32 (Spec.histOf (fX m c) (fW m c) k.val (img t)) := by
  unfold outsAt0
  dsimp only
  rw [out_hist]
  exact histWord_value (fX m c) (fW m c) (img t) _ (ldX_eq m c t _ _) _ (ldThr_eq m c t _ _) k.val k.isLt

end Cert.KernelIdeal.Value
-- ==== Proof.Arrays.lean ====
/- The program's results from the arguments: the launch's two arrays, and the host operations after it. -/
module

public import proofs.«01_k».proof.Proof.Value
public import Idealize.ShloMosaic.Lib.Pipeline.Value
public import Idealize.ShloMosaic.Lib.Pipeline.ValueKit

@[expose] public section

noncomputable section

namespace Cert.KernelIdeal.Value

open Idealize.ShloMosaic Idealize.ShloMosaic.TcCoe Idealize.SL.Sem Cert.KernelIdeal Cert.KernelIdeal.Gen
open Cert.KernelIdeal.Host

variable (m : (ℓ : Loc nD τ sig) → Buf (Elt Ideal) ℓ) (c : Dev nD)

/-- The convolution, image by filter by lane. -/
def convArr : Vec Ideal S8x64x1024 .f32 := fun i => Spec.conv (fX m c) (fW m c) (i 0) (i 1) (row (i 2)) (col (i 2))

/-- The images' histograms. -/
def histArr : Vec Ideal S8x1x8 .i32 := fun i => BitVec.ofNat 32 (Spec.histOf (fX m c) (fW m c) (i 2).val (i 0))

/-- The first output window's block at a point is that image. -/
theorem index_conv (t : Fin cfg0.N) : win0_3.index t 0 = t.val ∧ win0_3.index t 1 = 0 ∧ win0_3.index t 2 = 0 := by
  rcases fin_N0 t with rfl | rfl | rfl | rfl | rfl | rfl | rfl | rfl <;> decide

/-- The second output window's block at a point is that image. -/
theorem index_hist (t : Fin cfg0.N) : win0_4.index t 0 = t.val ∧ win0_4.index t 1 = 0 ∧ win0_4.index t 2 = 0 := by
  rcases fin_N0 t with rfl | rfl | rfl | rfl | rfl | rfl | rfl | rfl <;> decide

/-- The launch's first array ends holding the convolution. -/
theorem final_conv : (dats m 0 c).arrAt 3 cfg0.N = convArr m c := by
  refine (dats m 0 c).arrAt_eq_of_covers 3 _ (by decide +kernel) fun t _ y => ?_
  blk_simp
  rw [after0_3]
  have h := index_conv t
  have e : (y : S1x64x1024.Idx) = ix3 0 (y 1) (y 2) := by
    funext a; fin_cases a
    · exact Fin.ext (by have : (y 0).val < 1 := (y 0).isLt; show (y 0).val = 0; omega)
    · rfl
    · rfl
  have e' : ((cfg0.win 3).blk t).view.emb y = (ix3 (img t) (y 1) (y 2) : S8x64x1024.Idx) := by
    funext a; apply Fin.ext
    have h0 : (y 0).val < 1 := (y 0).isLt
    match a with
    | ⟨0, _⟩ => show win0_3.index t 0 * 1 + 1 * (y 0).val = t.val; omega
    | ⟨1, _⟩ => show win0_3.index t 1 * 64 + 1 * (y 1).val = (y 1).val; omega
    | ⟨2, _⟩ => show win0_3.index t 2 * 1024 + 1 * (y 2).val = (y 2).val; omega
  rw [e']
  exact (congrArg (outsAt0 m c t).1 e).trans (outs_conv m c t (y 1) (y 2))

/-- The launch's second array ends holding the images' histograms. -/
theorem final_hist : (dats m 0 c).arrAt 4 cfg0.N = histArr m c := by
  refine (dats m 0 c).arrAt_eq_of_covers 4 _ (by decide +kernel) fun t _ y => ?_
  blk_simp
  rw [after0_4]
  have h := index_hist t
  have e : (y : S1x1x8.Idx) = ix3 0 0 (y 2) := by
    funext a; fin_cases a
    · exact Fin.ext (by have : (y 0).val < 1 := (y 0).isLt; show (y 0).val = 0; omega)
    · exact Fin.ext (by have : (y 1).val < 1 := (y 1).isLt; show (y 1).val = 0; omega)
    · rfl
  have e' : ((cfg0.win 4).blk t).view.emb y = (ix3 (img t) 0 (y 2) : S8x1x8.Idx) := by
    funext a; apply Fin.ext
    have h0 : (y 0).val < 1 := (y 0).isLt
    have h1 : (y 1).val < 1 := (y 1).isLt
    match a with
    | ⟨0, _⟩ => show win0_4.index t 0 * 1 + 1 * (y 0).val = t.val; omega
    | ⟨1, _⟩ => show win0_4.index t 1 * 1 + 1 * (y 1).val = 0; omega
    | ⟨2, _⟩ => show win0_4.index t 2 * 8 + 1 * (y 2).val = (y 2).val; omega
  rw [e']
  exact (congrArg (outsAt0 m c t).2 e).trans (outs_hist m c t (y 2))

/-! ## The host operations after the launch -/

/-- The buffers as the launch leaves them. -/
abbrev left : Valuation τ sig (Elt Ideal) := Pipeline.withArrays spec0 c (V0 m c) fun w => (dats m 0 c).arrAt w cfg0.N

/-- The first array as the host finds it. -/
theorem left_conv : left m c (Proc.devRef .tc main_v10_0) = convArr m c :=
  (Pipeline.withArrays_arr spec0 launch0.win.arr_inj c (V0 m c) (fun w => (dats m 0 c).arrAt w cfg0.N) 3).trans (final_conv m c)

/-- The second array as the host finds it. -/
theorem left_hist : left m c (Proc.devRef .tc main_v10_1) = histArr m c :=
  (Pipeline.withArrays_arr spec0 launch0.win.arr_inj c (V0 m c) (fun w => (dats m 0 c).arrAt w cfg0.N) 4).trans (final_hist m c)

/-- The sum of the images' histograms. -/
def sums (h : Vec Ideal S8x1x8 .i32) : IVec S8 32 :=
  Host.reduce IntOp.addi (shapeCast S8x8 h shapeCasts_S8x1x8_S8x8) (constantI S_ 32 0#32) reducesTo_S8x8_S8_d0 h_S_

/-- The sum of the eight bins. -/
def sumAll (h : Vec Ideal S8x1x8 .i32) : IVec S_ 32 :=
  Host.reduce IntOp.addi (sums h) (constantI S_ 32 0#32) reducesTo_S8_S_d0 h_S_

/-- The first result in the host's words. -/
theorem tail_conv : Pipeline.afterTail₀ cfgs (dats m) 0 (V0 m) [hostOps1] c main_v17
    = shapeCast S8x64x32x32 (convArr m c) shapeCasts_S8x64x1024_S8x64x32x32 := by
  have e := left_conv m c
  unfold Pipeline.afterTail₀
  change StableHlo.after hostOps1 (left m c) _ = _
  generalize left m c = L at e ⊢
  after_results
  rw [e]
  rfl

/-- The second result in the host's words. -/
theorem tail_hist : Pipeline.afterTail₀ cfgs (dats m) 0 (V0 m) [hostOps1] c main_v16
    = concatenate S9 0 [⟨S8, sums (histArr m c)⟩, ⟨S1, broadcastInDim S1 ![] bcast_S_S1 (subi (constantI S_ 32 37748736#32) (sumAll (histArr m c)))⟩] concatenates_S8_S1_S9_d0 := by
  have e := left_hist m c
  unfold Pipeline.afterTail₀
  change StableHlo.after hostOps1 (left m c) _ = _
  generalize left m c = L at e ⊢
  after_results
  rw [e]
  rfl

/-- The first result at an index is the convolution. -/
theorem out0_apply (n : Fin 8) (f : Fin 64) (y z : Fin 32) :
    (Pipeline.afterTail₀ cfgs (dats m) 0 (V0 m) [hostOps1] c main_v17 : Vec Ideal S8x64x32x32 .f32) (ix4 n f y z)
      = Spec.conv (fX m c) (fW m c) n f y z := by
  rw [tail_conv]
  pointwise
  show Spec.conv (fX m c) (fW m c) n f (row ⟨y.val * 32 + z.val, _⟩) (col ⟨y.val * 32 + z.val, _⟩) = _
  exact congrArg₂ (Spec.conv (fX m c) (fW m c) n f)
    (Fin.ext (by show (y.val * 32 + z.val) / 32 = y.val; omega)) (Fin.ext (by show (y.val * 32 + z.val) % 32 = z.val; omega))

/-- The reduced axis of the images' sum. -/
theorem reduces_images : S8x8.Reduces [0] S8 := by decide

/-- The sum of the images' histograms is the histogram. -/
theorem sums_apply (k : Fin 8) : sums (histArr m c) (ix1 k) = BitVec.ofNat 32 (Spec.hist (fX m c) (fW m c) k.val) := by
  unfold sums
  rw [Host.reduce_eq_fold_single _ _ _ _ reduces_images]
  refine (Spec.fold_addi (Finset.univ : Finset (Fin 8)) _).trans ?_
  unfold Spec.hist
  rw [Spec.ofNat_sum]
  refine Finset.sum_congr rfl fun n _ => ?_
  have hl : reduces_images.lift (ix1 k) n = (ix2 n k : S8x8.Idx) := by
    funext b; apply Fin.ext; fin_cases b <;> rfl
  show shapeCast _ _ _ (reduces_images.lift (ix1 k) n) = _
  rw [hl]
  pointwise
  rfl

/-- The eight bins' sum. -/
theorem sumAll_apply (j : S_.Idx) : sumAll (histArr m c) j = BitVec.ofNat 32 (∑ k ∈ Finset.range 8, Spec.hist (fX m c) (fW m c) k) := by
  unfold sumAll
  rw [Host.reduce_eq_fold]
  refine (Spec.fold_addi _ _).trans ?_
  rw [Finset.filter_true_of_mem fun i _ => funext fun a => a.elim0]
  refine (sum_idx1 _).trans ?_
  rw [Finset.sum_range, Spec.ofNat_sum]
  exact Finset.sum_congr rfl fun k _ => sums_apply m c k

/-- The second result at an index is the histogram: eight bins counted, the last what they leave of all positions. -/
theorem out1_apply (k : Fin 9) :
    (Pipeline.afterTail₀ cfgs (dats m) 0 (V0 m) [hostOps1] c main_v16 : Vec Ideal S9 .i32) (ix1 k)
      = BitVec.ofNat 32 (Spec.hist (fX m c) (fW m c) k.val) := by
  rw [tail_hist]
  by_cases hk : k.val < 8
  · refine Eq.trans ?_ (sums_apply m c ⟨k.val, hk⟩)
    pointwise
    rw [dif_pos hk]
  · have h8 : k.val = 8 := by omega
    pointwise
    rw [dif_neg hk]
    rw [sumAll_apply, h8, Spec.hist_last]
    have hs := Spec.sum_hist (fX m c) (fW m c)
    rw [Finset.sum_range_succ] at hs
    generalize ∑ k ∈ Finset.range 8, Spec.hist (fX m c) (fW m c) k = s at *
    apply BitVec.eq_of_toNat_eq
    show (37748736#32 - BitVec.ofNat 32 s).toNat = _
    rw [BitVec.toNat_sub, BitVec.toNat_ofNat s, BitVec.toNat_ofNat (37748736 - s)]
    show (4294967296 - s % 4294967296 + 37748736) % 4294967296 = (37748736 - s) % 4294967296
    omega

/-- The program's run: the two results as the host leaves them, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v17) = Pipeline.afterTail₀ cfgs (dats m) 0 (V0 m) [hostOps1] c main_v17
    ∧ r.2.mem ((c.tc : Thread nD τ).loc main_v16) = Pipeline.afterTail₀ cfgs (dats m) 0 (V0 m) [hostOps1] c main_v16
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨(h.1 c).2 main_v17 (Pipeline.mem_restRefs_of main_v17 (by decide) (by decide)),
     (h.1 c).2 main_v16 (Pipeline.mem_restRefs_of main_v16 (by decide) (by decide)), h.2 c⟩)
    (θ_run_and (run_main m ρ) (unchanged m ρ))

end Cert.KernelIdeal.Value
-- ==== Proof.Ref.lean ====
/- The reference's two results, read at an index: they are the specification's. -/
module

public import proofs.«01_k».proof.Proof.Gen.ReferenceIdeal.Run
public import proofs.«01_k».proof.Proof.Spec
public import Idealize.ShloMosaic.Lib.Pointwise
public import Idealize.ShloMosaic.Lib.Tactic.CleanTypes
public import Idealize.ShloMosaic.Lib.KernelVsHost

@[expose] public section

noncomputable section

namespace Cert.ReferenceIdeal.Read

open Idealize.ShloMosaic Idealize.ShloMosaic.TcCoe Cert.ReferenceIdeal Cert.ReferenceIdeal.Gen

/-- A window of the padded image lies inside it. -/
theorem slices_pad (i j : ℕ) (hi : i ≤ 2) (hj : j ≤ 2) : S8x64x34x34.Slices ![0, 0, i, j] S8x64x32x32 :=
  ⟨rfl, fun a => by fin_cases a <;> simp [S8x64x34x34, S8x64x32x32] <;> omega⟩

/-- The padded image shifted by one tap. -/
def shifted (x : FVec Ideal S8x64x32x32 .f32) (i j : ℕ) (hi : i ≤ 2) (hj : j ≤ 2) : FVec Ideal S8x64x1x32x32 .f32 :=
  broadcastInDim S8x64x1x32x32 ![0, 1, 3, 4] bcast_S8x64x32x32_S8x64x1x32x32_0_1_3_4
    (extractStridedSlice S8x64x32x32 ![0, 0, i, j]
      (pad S8x64x34x34 ![0, 0, 1, 1] ![0, 0, 1, 1] ![0, 0, 0, 0] x (sitofp .f32 (constantI S_ 32 0#32))
        pads_S8x64x32x32_S8x64x34x34_000_000_110_110 h_S_) (slices_pad i j hi hj))

/-- The nine taps' images. -/
def stacked (x : FVec Ideal S8x64x32x32 .f32) : FVec Ideal S8x64x9x32x32 .f32 :=
  concatenate S8x64x9x32x32 2
    [⟨S8x64x1x32x32, shifted x 0 0 (by omega) (by omega)⟩, ⟨S8x64x1x32x32, shifted x 0 1 (by omega) (by omega)⟩,
     ⟨S8x64x1x32x32, shifted x 0 2 (by omega) (by omega)⟩, ⟨S8x64x1x32x32, shifted x 1 0 (by omega) (by omega)⟩,
     ⟨S8x64x1x32x32, shifted x 1 1 (by omega) (by omega)⟩, ⟨S8x64x1x32x32, shifted x 1 2 (by omega) (by omega)⟩,
     ⟨S8x64x1x32x32, shifted x 2 0 (by omega) (by omega)⟩, ⟨S8x64x1x32x32, shifted x 2 1 (by omega) (by omega)⟩,
     ⟨S8x64x1x32x32, shifted x 2 2 (by omega) (by omega)⟩]
    concatenates_S8x64x1x32x32_S8x64x1x32x32_S8x64x1x32x32_S8x64x1x32x32_S8x64x1x32x32_S8x64x1x32x32_S8x64x1x32x32_S8x64x1x32x32_S8x64x1x32x32_S8x64x9x32x32_d2

/-- The weights with the taps in one axis. -/
def flatW (w : FVec Ideal S64x64x3x3 .f32) : FVec Ideal S64x64x9 .f32 := shapeCast S64x64x9 w shapeCasts_S64x64x3x3_S64x64x9

/-- Which products exceed the threshold. -/
def mask (x : FVec Ideal S8x64x32x32 .f32) (w : FVec Ideal S64x64x3x3 .f32) : IVec S8x64x64x9x32x32 1 :=
  cmpf .ogt (mulf
    (broadcastInDim S8x64x64x9x32x32 ![0, 1, 2, 3, 4, 5] bcast_S1x64x64x9x1x1_S8x64x64x9x32x32_0_1_2_3_4_5
      (broadcastInDim S1x64x64x9x1x1 ![1, 2, 3] bcast_S64x64x9_S1x64x64x9x1x1_1_2_3 (Host.absf (flatW w))))
    (broadcastInDim S8x64x64x9x32x32 ![0, 1, 2, 3, 4, 5] bcast_S8x1x64x9x32x32_S8x64x64x9x32x32_0_1_2_3_4_5
      (broadcastInDim S8x1x64x9x32x32 ![0, 2, 3, 4, 5] bcast_S8x64x9x32x32_S8x1x64x9x32x32_0_2_3_4_5 (Host.absf (stacked x)))))
    (broadcastInDim S8x64x64x9x32x32 ![] bcast_S_S8x64x64x9x32x32 (constant (F := Ideal) S_ .f32 0x322BCC77#32))

/-- The counts over a group's eight channels. -/
def counts (x : FVec Ideal S8x64x32x32 .f32) (w : FVec Ideal S64x64x3x3 .f32) : IVec S8x64x8x9x32x32 32 :=
  Host.reduce IntOp.addi (extui 32 (shapeCast S8x64x8x8x9x32x32 (mask x w) shapeCasts_S8x64x64x9x32x32_S8x64x8x8x9x32x32) natLt_1_32)
    (constantI S_ 32 0#32) reducesTo_S8x64x8x8x9x32x32_S8x64x8x9x32x32_d3 h_S_

/-- The indicators of each count at each position. -/
def hits (x : FVec Ideal S8x64x32x32 .f32) (w : FVec Ideal S64x64x3x3 .f32) : IVec S8x64x8x9x32x32x9 32 :=
  extui 32 (cmpi .eq
    (broadcastInDim S8x64x8x9x32x32x9 ![0, 1, 2, 3, 4, 5, 6] bcast_S8x64x8x9x32x32x1_S8x64x8x9x32x32x9_0_1_2_3_4_5_6
      (broadcastInDim S8x64x8x9x32x32x1 ![0, 1, 2, 3, 4, 5] bcast_S8x64x8x9x32x32_S8x64x8x9x32x32x1_0_1_2_3_4_5 (counts x w)))
    (broadcastInDim S8x64x8x9x32x32x9 ![0, 1, 2, 3, 4, 5, 6] bcast_S1x1x1x1x1x1x9_S8x64x8x9x32x32x9_0_1_2_3_4_5_6
      (broadcastInDim S1x1x1x1x1x1x9 ![6] bcast_S9_S1x1x1x1x1x1x9_6 (iotaInDim S9 32 0)))) natLt_1_32

variable (m : (ℓ : Loc nD τ sig) → Buf (Elt Ideal) ℓ) (c : Dev nD)

/-- The images. -/
abbrev argX : FVec Ideal S8x64x32x32 .f32 := m ((c.tc : Thread nD τ).loc main_arg0)
/-- The weights. -/
abbrev argW : FVec Ideal S64x64x3x3 .f32 := m ((c.tc : Thread nD τ).loc main_arg1)

/-- The first result, through the steps above. -/
theorem out0_eq : Value.res_out0 m c = transpose S8x64x32x32 [0, 3, 1, 2]
    (Host.dotGeneral dot_S8x64x9x32x32_S64x64x9_S8x32x32x64_12_12_034_0_n_n none (stacked (argX m c)) (flatW (argW m c)))
    transposes_S8x32x32x64_S8x64x32x32_0_3_1_2 := rfl

/-- The second result, through the steps above. -/
theorem out1_eq : Value.res_out1 m c = Host.reduce IntOp.addi (hits (argX m c) (argW m c)) (constantI S_ 32 0#32)
    reducesTo_S8x64x8x9x32x32x9_S9_d0_1_2_3_4_5 h_S_ := rfl

variable (x : FVec Ideal S8x64x32x32 .f32) (w : FVec Ideal S64x64x3x3 .f32)

/-- One tap's image at an index. -/
theorem shifted_apply (i j : ℕ) (hi : i ≤ 2) (hj : j ≤ 2) (n : Fin 8) (ch : Fin 64) (y z : Fin 32) :
    shifted x i j hi hj (ix5 n ch 0 y z) = if h : (1 ≤ y.val + i ∧ y.val + i ≤ 32) ∧ 1 ≤ z.val + j ∧ z.val + j ≤ 32 then
      x (ix4 n ch ⟨y.val + i - 1, by omega⟩ ⟨z.val + j - 1, by omega⟩) else 0 := by
  unfold shifted
  pointwise
  by_cases h : (1 ≤ y.val + i ∧ y.val + i ≤ 32) ∧ 1 ≤ z.val + j ∧ z.val + j ≤ 32
  · rw [dif_pos h, dif_pos (by omega)]
    exact congrArg x (congrArg₂ (ix4 n ch) (Fin.ext (by show i + y.val - 1 = y.val + i - 1; omega))
      (Fin.ext (by show j + z.val - 1 = z.val + j - 1; omega)))
  · rw [dif_neg h, dif_neg (by omega)]
    exact sitofp_zero

/-- The images and the weights as functions of their coordinates. -/
abbrev fX (n : Fin 8) (ch : Fin 64) (y z : Fin 32) : EReal := x (ix4 n ch y z)
/-- The weights by tap. -/
abbrev fW (f ch : Fin 64) (t : Fin 9) : EReal := w (ix4 f ch ⟨t.val / 3, by omega⟩ ⟨t.val % 3, by omega⟩)

/-- The nine taps' images at an index are the specification's. -/
theorem stacked_apply (n : Fin 8) (ch : Fin 64) (t : Fin 9) (y z : Fin 32) :
    stacked x (ix5 n ch t y z) = Spec.win (fX x) n ch t y z := by
  have e : stacked x (ix5 n ch t y z) = shifted x (t.val / 3) (t.val % 3) (by omega) (by omega) (ix5 n ch 0 y z) := by
    unfold stacked
    obtain ⟨t, ht⟩ := t
    interval_cases t <;> pointwise
  rw [e, shifted_apply]
  rfl

/-- The weights with the taps in one axis, at an index. -/
theorem flatW_apply (f ch : Fin 64) (t : Fin 9) : flatW w (ix3 f ch t) = fW w f ch t := by
  unfold flatW
  pointwise

/-- The first result at an index is the convolution. -/
theorem out0_apply (n : Fin 8) (f : Fin 64) (y z : Fin 32) : transpose S8x64x32x32 [0, 3, 1, 2]
    (Host.dotGeneral dot_S8x64x9x32x32_S64x64x9_S8x32x32x64_12_12_034_0_n_n none (stacked x) (flatW w))
    transposes_S8x32x32x64_S8x64x32x32_0_3_1_2 (ix4 n f y z) = Spec.conv (fX x) (fW w) n f y z := by
  pointwise
  rw [Finset.sum_comm]
  refine Finset.sum_congr rfl fun t _ => Finset.sum_congr rfl fun ch _ => ?_
  rw [stacked_apply, flatW_apply]
  exact mul_comm _ _

/-- The mask at an index. -/
theorem mask_apply (n : Fin 8) (f ch : Fin 64) (t : Fin 9) (y z : Fin 32) : mask x w (ix6 n f ch t y z)
    = BitVec.ofBool (decide (Spec.eps < Spec.mag (fW w f ch t) * Spec.mag (Spec.win (fX x) n ch t y z))) := by
  rw [← stacked_apply, ← flatW_apply]
  unfold mask
  pointwise

/-- The reduced axis of the counts. -/
theorem reduces_counts : S8x64x8x8x9x32x32.Reduces [3] S8x64x8x9x32x32 := by decide

/-- The counts at an index are the specification's. -/
theorem counts_apply (n : Fin 8) (f : Fin 64) (g : Fin 8) (t : Fin 9) (y z : Fin 32) :
    counts x w (ix6 n f g t y z) = BitVec.ofNat 32 (Spec.count (fX x) (fW w) n f g t y z) := by
  unfold counts
  rw [Host.reduce_eq_fold_single _ _ _ _ reduces_counts]
  refine (Spec.fold_addi (Finset.univ : Finset (Fin 8)) _).trans ?_
  unfold Spec.count
  rw [← Spec.sum_indicator]
  refine Finset.sum_congr rfl fun a _ => ?_
  have hl : reduces_counts.lift (ix6 n f g t y z) a = (ix7 n f g a t y z : S8x64x8x8x9x32x32.Idx) := by
    funext b; apply Fin.ext; fin_cases b <;> rfl
  show extui 32 _ _ (reduces_counts.lift (ix6 n f g t y z) a) = _
  rw [hl]
  pointwise
  rw [mask_apply]
  by_cases h : Spec.eps < Spec.mag (fW w f ⟨g.val * 8 + a.val, by omega⟩ t) * Spec.mag (Spec.win (fX x) n ⟨g.val * 8 + a.val, by omega⟩ t y z)
  · rw [if_pos h, decide_eq_true h]; rfl
  · rw [if_neg h, decide_eq_false h]; rfl

/-- The indicators at an index. -/
theorem hits_apply (n : Fin 8) (f : Fin 64) (g : Fin 8) (t : Fin 9) (y z : Fin 32) (k : Fin 9) :
    hits x w (ix7 n f g t y z k) = BitVec.ofNat 32 (if Spec.count (fX x) (fW w) n f g t y z = k.val then 1 else 0) := by
  unfold hits
  pointwise
  rw [counts_apply]
  have h := Spec.count_le (fX x) (fW w) n f g t y z
  have hk := k.isLt
  generalize Spec.count (fX x) (fW w) n f g t y z = a at *
  generalize k.val = b at *
  interval_cases a <;> interval_cases b <;> rfl

/-- An index of the indicators drops to its last coordinate. -/
theorem drop_hits (n : Fin 8) (f : Fin 64) (g : Fin 8) (t : Fin 9) (y z : Fin 32) (k k' : Fin 9) :
    reducesTo_S8x64x8x9x32x32x9_S9_d0_1_2_3_4_5.drop (ix7 n f g t y z k') = ix1 k ↔ k' = k := by
  have e : (reducesTo_S8x64x8x9x32x32x9_S9_d0_1_2_3_4_5.drop (ix7 n f g t y z k') 0).val = k'.val :=
    reducesTo_S8x64x8x9x32x32x9_S9_d0_1_2_3_4_5.drop_apply_val_of_eq (ix7 n f g t y z k') 0 6
  constructor
  · intro h; rw [h] at e; exact Fin.ext e.symm
  · rintro rfl; funext a; fin_cases a; exact Fin.ext e

/-- The second result at an index is the word of the histogram. -/
theorem out1_apply (k : Fin 9) : Host.reduce IntOp.addi (hits x w) (constantI S_ 32 0#32)
    reducesTo_S8x64x8x9x32x32x9_S9_d0_1_2_3_4_5 h_S_ (ix1 k) = BitVec.ofNat 32 (Spec.hist (fX x) (fW w) k.val) := by
  rw [Host.reduce_eq_fold]
  refine (Spec.fold_addi _ _).trans ?_
  rw [Finset.sum_filter]
  refine (sum_idx7 _).trans ?_
  simp only [drop_hits, Finset.sum_ite_eq', Finset.mem_univ, if_true, hits_apply, ← Spec.ofNat_sum]
  refine congrArg _ ?_
  unfold Spec.hist Spec.histOf
  rfl

end Cert.ReferenceIdeal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Arrays
public import proofs.«01_k».proof.Proof.Ref
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments as they were, and it has no semaphore. -/
theorem frame_reference : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run (F := Ideal) m ρ)

/-- From equal arguments the two programs leave equal convolutions. -/
theorem conv_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : Cert.ReferenceIdeal.Read.argX m' c = Cert.KernelIdeal.Host.argX m c)
    (h1 : Cert.ReferenceIdeal.Read.argW m' c = Cert.KernelIdeal.Host.argW m c) :
    Cert.ReferenceIdeal.Value.res_main_v22 (F := Ideal) m' c
      = Pipeline.afterTail₀ Cert.KernelIdeal.cfgs (Cert.KernelIdeal.Gen.dats m) 0 (Cert.KernelIdeal.Gen.V0 m) [Cert.KernelIdeal.Gen.hostOps1] c Cert.KernelIdeal.main_v17 := by
  refine (Cert.ReferenceIdeal.Read.out0_eq m' c).trans ?_
  refine funext fun (i : Cert.KernelIdeal.S8x64x32x32.Idx) => ?_
  idx_vars i
  refine (Cert.ReferenceIdeal.Read.out0_apply _ _ i0 i1 i2 i3).trans ?_
  rw [h0, h1]
  exact (Cert.KernelIdeal.Value.out0_apply m c i0 i1 i2 i3).symm

/-- From equal arguments the two programs leave equal histograms. -/
theorem hist_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : Cert.ReferenceIdeal.Read.argX m' c = Cert.KernelIdeal.Host.argX m c)
    (h1 : Cert.ReferenceIdeal.Read.argW m' c = Cert.KernelIdeal.Host.argW m c) :
    Cert.ReferenceIdeal.Value.res_main_v42 (F := Ideal) m' c
      = Pipeline.afterTail₀ Cert.KernelIdeal.cfgs (Cert.KernelIdeal.Gen.dats m) 0 (Cert.KernelIdeal.Gen.V0 m) [Cert.KernelIdeal.Gen.hostOps1] c Cert.KernelIdeal.main_v16 := by
  refine (Cert.ReferenceIdeal.Read.out1_eq m' c).trans ?_
  refine funext fun (i : Cert.KernelIdeal.S9.Idx) => ?_
  idx_vars i
  refine (Cert.ReferenceIdeal.Read.out1_apply _ _ i0).trans ?_
  rw [h0, h1]
  exact (Cert.KernelIdeal.Value.out1_apply m c i0).symm

/-- The kernel and the reference compute the same two results over the extended reals. -/
theorem same_results : Cert.algebraic_KernelIdeal_ReferenceIdeal := fun m g m' g' _ hargs =>
  ⟨_, _, Cert.KernelIdeal.Value.run m g,
    (θ_run Cert.ReferenceIdeal.defs _ _).mono (fun _ h c =>
      ⟨(h c).1.trans (conv_eq m c m' (hargs c).1 (hargs c).2.1), (h c).2.1.trans (hist_eq m c m' (hargs c).1 (hargs c).2.1), (h c).2.2⟩)
      (Cert.ReferenceIdeal.Value.run (F := Ideal) m' g')⟩

/-- The three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_results⟩

end Cert.Proof

end
